-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S8x2048x512 : Shape := ⟨3, ![8, 2048, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S1x512x512 : Shape := ⟨3, ![1, 512, 512]⟩
abbrev S1x512x1024 : Shape := ⟨3, ![1, 512, 1024]⟩
abbrev S_ : Shape := ⟨0, ![]⟩

class Facts : Prop where
  bcast_S_S8x2048x512 : S_.BroadcastsInDim S8x2048x512 (![] : Fin 0 → Fin S8x2048x512.rank)
  bcast_S_S1x32x64 : S_.BroadcastsInDim S1x32x64 (![] : Fin 0 → Fin S1x32x64.rank)
  bcast_S_S1x32 : S_.BroadcastsInDim S1x32 (![] : Fin 0 → Fin S1x32.rank)
  bcast_S_S1x32x64x16 : S_.BroadcastsInDim S1x32x64x16 (![] : Fin 0 → Fin S1x32x64x16.rank)
  bcast_S_S1x32x16x64 : S_.BroadcastsInDim S1x32x16x64 (![] : Fin 0 → Fin S1x32x16x64.rank)

variable [Facts]

def fn_part1 {F : FTy → Type} [FloatOps F] (main_arg1 : FVec F S1x32x64 .f32) (main_arg2 : FVec F S1x32x64 .f32) (main_arg4 : FVec F S1x32x64x16 .f32) (main_arg5 : FVec F S1x32x64x16 .f32) (main_arg7 : FVec F S1x32x16x64 .f32) (main_v1 : IVec S8x2048x512 1) (main_v3 : IVec S8x2048x512 1) (main_v5 : IVec S1x32x64 1) (main_v7 : IVec S1x32x64 1) (main_v9 : IVec S1x32x64 1) (main_v11 : IVec S1x32x64 1) (main_v13 : IVec S1x32 1) (main_v15 : IVec S1x32 1) : IVec S8x2048x512 1 × IVec S8x2048x512 1 × IVec S1x32x64 1 × IVec S1x32x64 1 × IVec S1x32x64 1 × IVec S1x32x64 1 × IVec S1x32 1 × IVec S1x32 1 × IVec S1x32x64x16 1 × IVec S1x32x64x16 1 × IVec S1x32x64x16 1 × IVec S1x32x64x16 1 × IVec S1x32x16x64 1 × IVec S1x32x16x64 1 × IVec S1x32x64 1 :=
  let main_cst_7 : FVec F S_ .f32 := constant S_ .f32 0x7F800000#32
  let main_v16 : FVec F S1x32x64x16 .f32 := broadcastInDim S1x32x64x16 ![] bcast_S_S1x32x64x16 main_cst_7
  let main_v17 : IVec S1x32x64x16 1 := cmpf .olt main_arg4 main_v16
  let main_cst_8 : FVec F S_ .f32 := constant S_ .f32 0xFF800000#32
  let main_v18 : FVec F S1x32x64x16 .f32 := broadcastInDim S1x32x64x16 ![] bcast_S_S1x32x64x16 main_cst_8
  let main_v19 : IVec S1x32x64x16 1 := cmpf .ogt main_arg4 main_v18
  let main_cst_9 : FVec F S_ .f32 := constant S_ .f32 0x7F800000#32
  let main_v20 : FVec F S1x32x64x16 .f32 := broadcastInDim S1x32x64x16 ![] bcast_S_S1x32x64x16 main_cst_9
  let main_v21 : IVec S1x32x64x16 1 := cmpf .olt main_arg5 main_v20
  let main_cst_10 : FVec F S_ .f32 := constant S_ .f32 0xFF800000#32
  let main_v22 : FVec F S1x32x64x16 .f32 := broadcastInDim S1x32x64x16 ![] bcast_S_S1x32x64x16 main_cst_10
  let main_v23 : IVec S1x32x64x16 1 := cmpf .ogt main_arg5 main_v22
  let main_cst_11 : FVec F S_ .f32 := constant S_ .f32 0x7F800000#32
  let main_v24 : FVec F S1x32x16x64 .f32 := broadcastInDim S1x32x16x64 ![] bcast_S_S1x32x16x64 main_cst_11
  let main_v25 : IVec S1x32x16x64 1 := cmpf .olt main_arg7 main_v24
  let main_cst_12 : FVec F S_ .f32 := constant S_ .f32 0xFF800000#32
  let main_v26 : FVec F S1x32x16x64 .f32 := broadcastInDim S1x32x16x64 ![] bcast_S_S1x32x16x64 main_cst_12
  let main_v27 : IVec S1x32x16x64 1 := cmpf .ogt main_arg7 main_v26
  let main_v28 : FVec F S1x32x64 .f32 := mulf main_arg1 main_arg1
  let main_v29 : FVec F S1x32x64 .f32 := mulf main_arg2 main_arg2
  let main_v30 : FVec F S1x32x64 .f32 := addf main_v28 main_v29
  let main_cst_13 : FVec F S_ .f32 := constant S_ .f32 0x00000000#32
  let main_v31 : FVec F S1x32x64 .f32 := broadcastInDim S1x32x64 ![] bcast_S_S1x32x64 main_cst_13
  let main_v32 : IVec S1x32x64 1 := cmpf .une main_v30 main_v31
  (main_v1, main_v3, main_v5, main_v7, main_v9, main_v11, main_v13, main_v15, main_v17, main_v19, main_v21, main_v23, main_v25, main_v27, main_v32)

def fn {F : FTy → Type} [FloatOps F] (main_arg0 : FVec F S8x2048x512 .f32) (main_arg1 : FVec F S1x32x64 .f32) (main_arg2 : FVec F S1x32x64 .f32) (main_arg3 : FVec F S1x32 .f32) (main_arg4 : FVec F S1x32x64x16 .f32) (main_arg5 : FVec F S1x32x64x16 .f32) (main_arg6 : FVec F S1x32x16x64 .f32) (main_arg7 : FVec F S1x32x16x64 .f32) (main_arg8 : FVec F S1x512 .f32) (main_arg9 : FVec F S1x512x512 .f32) (main_arg10 : FVec F S1x512 .f32) (main_arg11 : FVec F S1x512x1024 .f32) : IVec S8x2048x512 1 × IVec S8x2048x512 1 × IVec S1x32x64 1 × IVec S1x32x64 1 × IVec S1x32x64 1 × IVec S1x32x64 1 × IVec S1x32 1 × IVec S1x32 1 × IVec S1x32x64x16 1 × IVec S1x32x64x16 1 × IVec S1x32x64x16 1 × IVec S1x32x64x16 1 × IVec S1x32x16x64 1 × IVec S1x32x16x64 1 × IVec S1x32x64 1 :=
  let main_cst : FVec F S_ .f32 := constant S_ .f32 0x7F800000#32
  let main_v0 : FVec F S8x2048x512 .f32 := broadcastInDim S8x2048x512 ![] bcast_S_S8x2048x512 main_cst
  let main_v1 : IVec S8x2048x512 1 := cmpf .olt main_arg0 main_v0
  let main_cst_0 : FVec F S_ .f32 := constant S_ .f32 0xFF800000#32
  let main_v2 : FVec F S8x2048x512 .f32 := broadcastInDim S8x2048x512 ![] bcast_S_S8x2048x512 main_cst_0
  let main_v3 : IVec S8x2048x512 1 := cmpf .ogt main_arg0 main_v2
  let main_cst_1 : FVec F S_ .f32 := constant S_ .f32 0x7F800000#32
  let main_v4 : FVec F S1x32x64 .f32 := broadcastInDim S1x32x64 ![] bcast_S_S1x32x64 main_cst_1
  let main_v5 : IVec S1x32x64 1 := cmpf .olt main_arg1 main_v4
  let main_cst_2 : FVec F S_ .f32 := constant S_ .f32 0xFF800000#32
  let main_v6 : FVec F S1x32x64 .f32 := broadcastInDim S1x32x64 ![] bcast_S_S1x32x64 main_cst_2
  let main_v7 : IVec S1x32x64 1 := cmpf .ogt main_arg1 main_v6
  let main_cst_3 : FVec F S_ .f32 := constant S_ .f32 0x7F800000#32
  let main_v8 : FVec F S1x32x64 .f32 := broadcastInDim S1x32x64 ![] bcast_S_S1x32x64 main_cst_3
  let main_v9 : IVec S1x32x64 1 := cmpf .olt main_arg2 main_v8
  let main_cst_4 : FVec F S_ .f32 := constant S_ .f32 0xFF800000#32
  let main_v10 : FVec F S1x32x64 .f32 := broadcastInDim S1x32x64 ![] bcast_S_S1x32x64 main_cst_4
  let main_v11 : IVec S1x32x64 1 := cmpf .ogt main_arg2 main_v10
  let main_cst_5 : FVec F S_ .f32 := constant S_ .f32 0x7F800000#32
  let main_v12 : FVec F S1x32 .f32 := broadcastInDim S1x32 ![] bcast_S_S1x32 main_cst_5
  let main_v13 : IVec S1x32 1 := cmpf .olt main_arg3 main_v12
  let main_cst_6 : FVec F S_ .f32 := constant S_ .f32 0xFF800000#32
  let main_v14 : FVec F S1x32 .f32 := broadcastInDim S1x32 ![] bcast_S_S1x32 main_cst_6
  let main_v15 : IVec S1x32 1 := cmpf .ogt main_arg3 main_v14
  fn_part1 (F := F) main_arg1 main_arg2 main_arg4 main_arg5 main_arg7 main_v1 main_v3 main_v5 main_v7 main_v9 main_v11 main_v13 main_v15
-- ==== Kernel.lean ====
abbrev S8x2048x512 : Shape := ⟨3, ![8, 2048, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S1x512x512 : Shape := ⟨3, ![1, 512, 512]⟩
abbrev S1x512x1024 : Shape := ⟨3, ![1, 512, 1024]⟩
abbrev S32x64 : Shape := ⟨2, ![32, 64]⟩
abbrev S32x16x64 : Shape := ⟨3, ![32, 16, 64]⟩
abbrev S512x64 : Shape := ⟨2, ![512, 64]⟩
abbrev S32 : Shape := ⟨1, ![32]⟩
abbrev S32x1 : Shape := ⟨2, ![32, 1]⟩
abbrev S32x64x16 : Shape := ⟨3, ![32, 64, 16]⟩
abbrev S2048x16 : Shape := ⟨2, ![2048, 16]⟩
abbrev S8x2048 : Shape := ⟨2, ![8, 2048]⟩
abbrev S256x2048 : Shape := ⟨2, ![256, 2048]⟩
abbrev S2048x256 : Shape := ⟨2, ![2048, 256]⟩
abbrev S8x64 : Shape := ⟨2, ![8, 64]⟩
abbrev S256x1024 : Shape := ⟨2, ![256, 1024]⟩
abbrev S1024x256 : Shape := ⟨2, ![1024, 256]⟩
abbrev S256x64 : Shape := ⟨2, ![256, 64]⟩
abbrev S64x1024 : Shape := ⟨2, ![64, 1024]⟩
abbrev S1024x16 : Shape := ⟨2, ![1024, 16]⟩
abbrev S16x256 : Shape := ⟨2, ![16, 256]⟩
abbrev S512 : Shape := ⟨1, ![512]⟩
abbrev S512x512 : Shape := ⟨2, ![512, 512]⟩
abbrev S512x1024 : Shape := ⟨2, ![512, 1024]⟩
abbrev S8x2048x1024 : Shape := ⟨3, ![8, 2048, 1024]⟩
abbrev S8x128x512 : Shape := ⟨3, ![8, 128, 512]⟩
abbrev S8x128x1024 : Shape := ⟨3, ![8, 128, 1024]⟩
abbrev S1024x4096 : Shape := ⟨2, ![1024, 4096]⟩
abbrev S8x4096 : Shape := ⟨2, ![8, 4096]⟩
abbrev S128x8x512 : Shape := ⟨3, ![128, 8, 512]⟩
abbrev S1024x512 : Shape := ⟨2, ![1024, 512]⟩
abbrev S1024x2048 : Shape := ⟨2, ![1024, 2048]⟩
abbrev S8x1024 : Shape := ⟨2, ![8, 1024]⟩
abbrev S1024x1024 : Shape := ⟨2, ![1024, 1024]⟩
abbrev S128x8x1024 : Shape := ⟨3, ![128, 8, 1024]⟩

abbrev nBuf : Space → Nat
  | .hbm => 50
  | .vmem => 29
  | .smem => 0
  | _ => 0

abbrev bufTy : (tb : Table) → Fin (tcTables nBuf tb) → BufTy
  | .hbm, ⟨0, _⟩ => ⟨S8x2048x512, .f32⟩
  | .hbm, ⟨1, _⟩ => ⟨S1x32x64, .f32⟩
  | .hbm, ⟨2, _⟩ => ⟨S1x32x64, .f32⟩
  | .hbm, ⟨3, _⟩ => ⟨S1x32, .f32⟩
  | .hbm, ⟨4, _⟩ => ⟨S1x32x64x16, .f32⟩
  | .hbm, ⟨5, _⟩ => ⟨S1x32x64x16, .f32⟩
  | .hbm, ⟨6, _⟩ => ⟨S1x32x16x64, .f32⟩
  | .hbm, ⟨7, _⟩ => ⟨S1x32x16x64, .f32⟩
  | .hbm, ⟨8, _⟩ => ⟨S1x512, .f32⟩
  | .hbm, ⟨9, _⟩ => ⟨S1x512x512, .f32⟩
  | .hbm, ⟨10, _⟩ => ⟨S1x512, .f32⟩
  | .hbm, ⟨11, _⟩ => ⟨S1x512x1024, .f32⟩
  | .hbm, ⟨12, _⟩ => ⟨S32x64, .f32⟩
  | .hbm, ⟨13, _⟩ => ⟨S32x16x64, .f32⟩
  | .hbm, ⟨14, _⟩ => ⟨S512x64, .f32⟩
  | .hbm, ⟨15, _⟩ => ⟨S32x64, .f32⟩
  | .hbm, ⟨16, _⟩ => ⟨S32x16x64, .f32⟩
  | .hbm, ⟨17, _⟩ => ⟨S512x64, .f32⟩
  | .hbm, ⟨18, _⟩ => ⟨S32, .f32⟩
  | .hbm, ⟨19, _⟩ => ⟨S32x1, .f32⟩
  | .hbm, ⟨20, _⟩ => ⟨S32x64, .f32⟩
  | .hbm, ⟨21, _⟩ => ⟨S32x16x64, .f32⟩
  | .hbm, ⟨22, _⟩ => ⟨S512x64, .f32⟩
  | .hbm, ⟨23, _⟩ => ⟨S32x64x16, .f32⟩
  | .hbm, ⟨24, _⟩ => ⟨S32x16x64, .f32⟩
  | .hbm, ⟨25, _⟩ => ⟨S512x64, .f32⟩
  | .hbm, ⟨26, _⟩ => ⟨S32x64x16, .f32⟩
  | .hbm, ⟨27, _⟩ => ⟨S32x16x64, .f32⟩
  | .hbm, ⟨28, _⟩ => ⟨S512x64, .f32⟩
  | .hbm, ⟨29, _⟩ => ⟨S32x16x64, .f32⟩
  | .hbm, ⟨30, _⟩ => ⟨S32x64x16, .f32⟩
  | .hbm, ⟨31, _⟩ => ⟨S2048x16, .f32⟩
  | .hbm, ⟨32, _⟩ => ⟨S32x16x64, .f32⟩
  | .hbm, ⟨33, _⟩ => ⟨S32x64x16, .f32⟩
  | .hbm, ⟨34, _⟩ => ⟨S2048x16, .f32⟩
  | .hbm, ⟨35, _⟩ => ⟨S8x2048, .f32⟩
  | .hbm, ⟨36, _⟩ => ⟨S8x2048, .f32⟩
  | .hbm, ⟨37, _⟩ => ⟨S256x2048, .bf16⟩
  | .hbm, ⟨38, _⟩ => ⟨S256x2048, .bf16⟩
  | .hbm, ⟨39, _⟩ => ⟨S2048x256, .bf16⟩
  | .hbm, ⟨40, _⟩ => ⟨S2048x256, .bf16⟩
  | .hbm, ⟨41, _⟩ => ⟨S512, .f32⟩
  | .hbm, ⟨42, _⟩ => ⟨S1x512, .f32⟩
  | .hbm, ⟨43, _⟩ => ⟨S512x512, .f32⟩
  | .hbm, ⟨44, _⟩ => ⟨S512x512, .bf16⟩
  | .hbm, ⟨45, _⟩ => ⟨S512, .f32⟩
  | .hbm, ⟨46, _⟩ => ⟨S1x512, .f32⟩
  | .hbm, ⟨47, _⟩ => ⟨S512x1024, .f32⟩
  | .hbm, ⟨48, _⟩ => ⟨S512x1024, .bf16⟩
  | .hbm, ⟨49, _⟩ => ⟨S8x2048x1024, .bf16⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S2048x16, .f32⟩
  | .local _ .vmem, ⟨6, _⟩ => ⟨S2048x16, .f32⟩
  | .local _ .vmem, ⟨7, _⟩ => ⟨S8x2048, .f32⟩
  | .local _ .vmem, ⟨8, _⟩ => ⟨S8x2048, .f32⟩
  | .local _ .vmem, ⟨9, _⟩ => ⟨S256x2048, .bf16⟩
  | .local _ .vmem, ⟨10, _⟩ => ⟨S256x2048, .bf16⟩
  | .local _ .vmem, ⟨11, _⟩ => ⟨S2048x256, .bf16⟩
  | .local _ .vmem, ⟨12, _⟩ => ⟨S2048x256, .bf16⟩
  | .local _ .vmem, ⟨13, _⟩ => ⟨S8x128x512, .f32⟩
  | .local _ .vmem, ⟨14, _⟩ => ⟨S8x128x512, .f32⟩
  | .local _ .vmem, ⟨15, _⟩ => ⟨S256x2048, .bf16⟩
  | .local _ .vmem, ⟨16, _⟩ => ⟨S256x2048, .bf16⟩
  | .local _ .vmem, ⟨17, _⟩ => ⟨S2048x256, .bf16⟩
  | .local _ .vmem, ⟨18, _⟩ => ⟨S2048x256, .bf16⟩
  | .local _ .vmem, ⟨19, _⟩ => ⟨S8x2048, .f32⟩
  | .local _ .vmem, ⟨20, _⟩ => ⟨S8x2048, .f32⟩
  | .local _ .vmem, ⟨21, _⟩ => ⟨S1x512, .f32⟩
  | .local _ .vmem, ⟨22, _⟩ => ⟨S512x512, .bf16⟩
  | .local _ .vmem, ⟨23, _⟩ => ⟨S1x512, .f32⟩
  | .local _ .vmem, ⟨24, _⟩ => ⟨S512x1024, .bf16⟩
  | .local _ .vmem, ⟨25, _⟩ => ⟨S8x128x1024, .bf16⟩
  | .local _ .vmem, ⟨26, _⟩ => ⟨S8x128x1024, .bf16⟩
  | .local _ .vmem, ⟨27, _⟩ => ⟨S1024x4096, .f32⟩
  | .local _ .vmem, ⟨28, _⟩ => ⟨S8x4096, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev main_v23_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg11_1 : Ref sig .tc := ⟨.vmem, 26, rfl⟩
abbrev cc1_scratch0 : Ref sig .tc := ⟨.vmem, 27, rfl⟩
abbrev cc1_scratch1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem11_1 : DmaSem sig := 26

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S8x128x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S8x2048x512 : Shape := ⟨3, ![8, 2048, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S1x512x512 : Shape := ⟨3, ![1, 512, 512]⟩
abbrev S1x512x1024 : Shape := ⟨3, ![1, 512, 1024]⟩
abbrev S8x2048x32x16 : Shape := ⟨4, ![8, 2048, 32, 16]⟩
abbrev S32x64 : Shape := ⟨2, ![32, 64]⟩
abbrev S32 : Shape := ⟨1, ![32]⟩
abbrev S32x1 : Shape := ⟨2, ![32, 1]⟩
abbrev S_ : Shape := ⟨0, ![]⟩
abbrev S32x64x16 : Shape := ⟨3, ![32, 64, 16]⟩
abbrev S32x8x2048x64 : Shape := ⟨4, ![32, 8, 2048, 64]⟩
abbrev S8x2048x32x64 : Shape := ⟨4, ![8, 2048, 32, 64]⟩
abbrev S1x1x32x64 : Shape := ⟨4, ![1, 1, 32, 64]⟩
abbrev S8x32x64 : Shape := ⟨3, ![8, 32, 64]⟩
abbrev S2048x8x32x64 : Shape := ⟨4, ![2048, 8, 32, 64]⟩
abbrev S1x8x32x64 : Shape := ⟨4, ![1, 8, 32, 64]⟩
abbrev S32x16x64 : Shape := ⟨3, ![32, 16, 64]⟩
abbrev S32x8x2048x16 : Shape := ⟨4, ![32, 8, 2048, 16]⟩
abbrev S512 : Shape := ⟨1, ![512]⟩
abbrev S32x16 : Shape := ⟨2, ![32, 16]⟩
abbrev S1x1x32x16 : Shape := ⟨4, ![1, 1, 32, 16]⟩
abbrev S512x512 : Shape := ⟨2, ![512, 512]⟩
abbrev S1x1x512 : Shape := ⟨3, ![1, 1, 512]⟩
abbrev S512x1024 : Shape := ⟨2, ![512, 1024]⟩
abbrev S8x2048x1024 : Shape := ⟨3, ![8, 2048, 1024]⟩

abbrev nBuf : Space → Nat
  | .hbm => 172
  | .vmem => 0
  | .smem => 0
  | _ => 0

abbrev hbmTy0_0 (i : Nat) : BufTy := match i % 128 with
  | 0 => ⟨S8x2048x512, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x512, .f32⟩
  | 9 => ⟨S1x512x512, .f32⟩
  | 10 => ⟨S1x512, .f32⟩
  | 11 => ⟨S1x512x1024, .f32⟩
  | 12 => ⟨S8x2048x32x16, .f32⟩
  | 13 => ⟨S32x64, .f32⟩
  | 14 => ⟨S32x64, .f32⟩
  | 15 => ⟨S32, .f32⟩
  | 16 => ⟨S32, .f32⟩
  | 17 => ⟨S32x1, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S_, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64x16, .f32⟩
  | 44 => ⟨S32x8x2048x64, .f32⟩
  | 45 => ⟨S8x2048x32x64, .f32⟩
  | 46 => ⟨S32x64x16, .f32⟩
  | 47 => ⟨S32x8x2048x64, .f32⟩
  | 48 => ⟨S8x2048x32x64, .f32⟩
  | 49 => ⟨S1x1x32x64, .f32⟩
  | 50 => ⟨S8x2048x32x64, .f32⟩
  | 51 => ⟨S8x2048x32x64, .f32⟩
  | 52 => ⟨S1x1x32x64, .f32⟩
  | 53 => ⟨S8x2048x32x64, .f32⟩
  | 54 => ⟨S8x2048x32x64, .f32⟩
  | 55 => ⟨S8x2048x32x64, .f32⟩
  | 56 => ⟨S1x1x32x64, .f32⟩
  | 57 => ⟨S8x2048x32x64, .f32⟩
  | 58 => ⟨S8x2048x32x64, .f32⟩
  | 59 => ⟨S1x1x32x64, .f32⟩
  | 60 => ⟨S8x2048x32x64, .f32⟩
  | 61 => ⟨S8x2048x32x64, .f32⟩
  | 62 => ⟨S8x2048x32x64, .f32⟩
  | 63 => ⟨S_, .f32⟩
  | 64 => ⟨S8x32x64, .f32⟩
  | 65 => ⟨S2048x8x32x64, .f32⟩
  | 66 => ⟨S2048x8x32x64, .f32⟩
  | 67 => ⟨S_, .f32⟩
  | 68 => ⟨S2048x8x32x64, .f32⟩
  | 69 => ⟨S_, .f32⟩
  | 70 => ⟨S2048x8x32x64, .f32⟩
  | 71 => ⟨S_, .i32⟩
  | 72 => ⟨S2048x8x32x64, .f32⟩
  | 73 => ⟨S2048x8x32x64, .f32⟩
  | 74 => ⟨S32x64, .f32⟩
  | 75 => ⟨S32x64, .f32⟩
  | 76 => ⟨S_, .i32⟩
  | 77 => ⟨S8x32x64, .f32⟩
  | 78 => ⟨S8x32x64, .f32⟩
  | 79 => ⟨S2048x8x32x64, .f32⟩
  | 80 => ⟨S2048x8x32x64, .f32⟩
  | 81 => ⟨S_, .i32⟩
  | 82 => ⟨S_, .i1⟩
  | 83 => ⟨S_, .i32⟩
  | 84 => ⟨S_, .i32⟩
  | 85 => ⟨S_, .i32⟩
  | 86 => ⟨S1x8x32x64, .f32⟩
  | 87 => ⟨S8x32x64, .f32⟩
  | 88 => ⟨S_, .i32⟩
  | 89 => ⟨S_, .i32⟩
  | 90 => ⟨S_, .i32⟩
  | 91 => ⟨S1x8x32x64, .f32⟩
  | 92 => ⟨S8x32x64, .f32⟩
  | 93 => ⟨S1x32x64, .f32⟩
  | 94 => ⟨S8x32x64, .f32⟩
  | 95 => ⟨S8x32x64, .f32⟩
  | 96 => ⟨S1x32x64, .f32⟩
  | 97 => ⟨S8x32x64, .f32⟩
  | 98 => ⟨S8x32x64, .f32⟩
  | 99 => ⟨S8x32x64, .f32⟩
  | 100 => ⟨S8x32x64, .f32⟩
  | 101 => ⟨S1x32x64, .f32⟩
  | 102 => ⟨S8x32x64, .f32⟩
  | 103 => ⟨S8x32x64, .f32⟩
  | 104 => ⟨S1x32x64, .f32⟩
  | 105 => ⟨S8x32x64, .f32⟩
  | 106 => ⟨S8x32x64, .f32⟩
  | 107 => ⟨S8x32x64, .f32⟩
  | 108 => ⟨S8x32x64, .f32⟩
  | 109 => ⟨S1x8x32x64, .f32⟩
  | 110 => ⟨S_, .i32⟩
  | 111 => ⟨S_, .i32⟩
  | 112 => ⟨S_, .i32⟩
  | 113 => ⟨S2048x8x32x64, .f32⟩
  | 114 => ⟨S1x8x32x64, .f32⟩
  | 115 => ⟨S_, .i32⟩
  | 116 => ⟨S_, .i32⟩
  | 117 => ⟨S_, .i32⟩
  | 118 => ⟨S2048x8x32x64, .f32⟩
  | 119 => ⟨S_, .i32⟩
  | 120 => ⟨S_, .i32⟩
  | 121 => ⟨S8x2048x32x64, .f32⟩
  | 122 => ⟨S8x2048x32x64, .f32⟩
  | 123 => ⟨S32x16x64, .f32⟩
  | 124 => ⟨S32x8x2048x16, .f32⟩
  | 125 => ⟨S8x2048x32x16, .f32⟩
  | 126 => ⟨S32x16x64, .f32⟩
  | 127 => ⟨S32x8x2048x16, .f32⟩
  | _ => ⟨S8x2048x512, .f32⟩

abbrev hbmTy0_1 (i : Nat) : BufTy := match i % 128 with
  | 0 => ⟨S8x2048x32x16, .f32⟩
  | 1 => ⟨S8x2048x32x16, .f32⟩
  | 2 => ⟨S512, .f32⟩
  | 3 => ⟨S32x16, .f32⟩
  | 4 => ⟨S1x1x32x16, .f32⟩
  | 5 => ⟨S8x2048x32x16, .f32⟩
  | 6 => ⟨S8x2048x32x16, .f32⟩
  | 7 => ⟨S8x2048x32x16, .f32⟩
  | 8 => ⟨S8x2048x512, .f32⟩
  | 9 => ⟨S8x2048x512, .f32⟩
  | 10 => ⟨S8x2048x512, .f32⟩
  | 11 => ⟨S_, .f32⟩
  | 12 => ⟨S8x2048x512, .f32⟩
  | 13 => ⟨S8x2048x512, .f32⟩
  | 14 => ⟨S8x2048x512, .f32⟩
  | 15 => ⟨S_, .f32⟩
  | 16 => ⟨S8x2048x512, .f32⟩
  | 17 => ⟨S8x2048x512, .f32⟩
  | 18 => ⟨S8x2048x512, .f32⟩
  | 19 => ⟨S_, .f32⟩
  | 20 => ⟨S8x2048x512, .f32⟩
  | 21 => ⟨S8x2048x512, .f32⟩
  | 22 => ⟨S_, .f32⟩
  | 23 => ⟨S8x2048x512, .f32⟩
  | 24 => ⟨S8x2048x512, .f32⟩
  | 25 => ⟨S8x2048x512, .f32⟩
  | 26 => ⟨S512x512, .f32⟩
  | 27 => ⟨S8x2048x512, .f32⟩
  | 28 => ⟨S512, .f32⟩
  | 29 => ⟨S1x1x512, .f32⟩
  | 30 => ⟨S8x2048x512, .f32⟩
  | 31 => ⟨S8x2048x512, .f32⟩
  | 32 => ⟨S8x2048x512, .f32⟩
  | 33 => ⟨S8x2048x512, .f32⟩
  | 34 => ⟨S_, .f32⟩
  | 35 => ⟨S8x2048x512, .f32⟩
  | 36 => ⟨S8x2048x512, .f32⟩
  | 37 => ⟨S_, .f32⟩
  | 38 => ⟨S8x2048x512, .f32⟩
  | 39 => ⟨S8x2048x512, .f32⟩
  | 40 => ⟨S8x2048x512, .f32⟩
  | 41 => ⟨S512x1024, .f32⟩
  | 42 => ⟨S8x2048x1024, .f32⟩
  | 43 => ⟨S8x2048x1024, .bf16⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_0 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_1 : Ref sig .tc := ⟨.hbm, 67, rfl⟩
abbrev main_v53 : Ref sig .tc := ⟨.hbm, 68, rfl⟩
abbrev main_cst_2 : Ref sig .tc := ⟨.hbm, 69, rfl⟩
abbrev main_v54 : Ref sig .tc := ⟨.hbm, 70, rfl⟩
abbrev main_c : Ref sig .tc := ⟨.hbm, 71, rfl⟩
abbrev main_v55_0 : Ref sig .tc := ⟨.hbm, 72, rfl⟩
abbrev main_v55_1 : Ref sig .tc := ⟨.hbm, 73, rfl⟩
abbrev main_v55_2 : Ref sig .tc := ⟨.hbm, 74, rfl⟩
abbrev main_v55_3 : Ref sig .tc := ⟨.hbm, 75, rfl⟩
abbrev main_v55_4 : Ref sig .tc := ⟨.hbm, 76, rfl⟩
abbrev main_v55_5 : Ref sig .tc := ⟨.hbm, 77, rfl⟩
abbrev main_v55_6 : Ref sig .tc := ⟨.hbm, 78, rfl⟩
abbrev main_v55_7 : Ref sig .tc := ⟨.hbm, 79, rfl⟩
abbrev main_v55_8 : Ref sig .tc := ⟨.hbm, 80, rfl⟩
abbrev main_while0c_c_17 : Ref sig .tc := ⟨.hbm, 81, rfl⟩
abbrev main_while0c_v101 : Ref sig .tc := ⟨.hbm, 82, rfl⟩
abbrev main_while0b_call0_c : Ref sig .tc := ⟨.hbm, 83, rfl⟩
abbrev main_while0b_call0_c_0 : Ref sig .tc := ⟨.hbm, 84, rfl⟩
abbrev main_while0b_call0_c_1 : Ref sig .tc := ⟨.hbm, 85, rfl⟩
abbrev main_while0b_call0_v0 : Ref sig .tc := ⟨.hbm, 86, rfl⟩
abbrev main_while0b_v101 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_c_1 : Ref sig .tc := ⟨.hbm, 90, rfl⟩
abbrev main_while0b_call1_v0 : Ref sig .tc := ⟨.hbm, 91, rfl⟩
abbrev main_while0b_v102 : Ref sig .tc := ⟨.hbm, 92, rfl⟩
abbrev main_while0b_v103 : Ref sig .tc := ⟨.hbm, 93, rfl⟩
abbrev main_while0b_v104 : Ref sig .tc := ⟨.hbm, 94, rfl⟩
abbrev main_while0b_v105 : Ref sig .tc := ⟨.hbm, 95, rfl⟩
abbrev main_while0b_v106 : Ref sig .tc := ⟨.hbm, 96, rfl⟩
abbrev main_while0b_v107 : Ref sig .tc := ⟨.hbm, 97, rfl⟩
abbrev main_while0b_v108 : Ref sig .tc := ⟨.hbm, 98, rfl⟩
abbrev main_while0b_v109 : Ref sig .tc := ⟨.hbm, 99, rfl⟩
abbrev main_while0b_v110 : Ref sig .tc := ⟨.hbm, 100, rfl⟩
abbrev main_while0b_v111 : Ref sig .tc := ⟨.hbm, 101, rfl⟩
abbrev main_while0b_v112 : Ref sig .tc := ⟨.hbm, 102, rfl⟩
abbrev main_while0b_v113 : Ref sig .tc := ⟨.hbm, 103, rfl⟩
abbrev main_while0b_v114 : Ref sig .tc := ⟨.hbm, 104, rfl⟩
abbrev main_while0b_v115 : Ref sig .tc := ⟨.hbm, 105, rfl⟩
abbrev main_while0b_v116 : Ref sig .tc := ⟨.hbm, 106, rfl⟩
abbrev main_while0b_v117 : Ref sig .tc := ⟨.hbm, 107, rfl⟩
abbrev main_while0b_v118 : Ref sig .tc := ⟨.hbm, 108, rfl⟩
abbrev main_while0b_call2_v0 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_c_1 : Ref sig .tc := ⟨.hbm, 112, rfl⟩
abbrev main_while0b_v119 : Ref sig .tc := ⟨.hbm, 113, rfl⟩
abbrev main_while0b_call3_v0 : Ref sig .tc := ⟨.hbm, 114, rfl⟩
abbrev main_while0b_call3_c : Ref sig .tc := ⟨.hbm, 115, rfl⟩
abbrev main_while0b_call3_c_0 : Ref sig .tc := ⟨.hbm, 116, rfl⟩
abbrev main_while0b_call3_c_1 : Ref sig .tc := ⟨.hbm, 117, rfl⟩
abbrev main_while0b_v120 : Ref sig .tc := ⟨.hbm, 118, rfl⟩
abbrev main_while0b_c_17 : Ref sig .tc := ⟨.hbm, 119, rfl⟩
abbrev main_while0b_v121 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_cst_3 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_cst_4 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_cst_5 : Ref sig .tc := ⟨.hbm, 147, rfl⟩
abbrev main_v80 : Ref sig .tc := ⟨.hbm, 148, rfl⟩
abbrev main_v81 : Ref sig .tc := ⟨.hbm, 149, rfl⟩
abbrev main_cst_6 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_cst_7 : Ref sig .tc := ⟨.hbm, 162, rfl⟩
abbrev main_v93 : Ref sig .tc := ⟨.hbm, 163, rfl⟩
abbrev main_v94 : Ref sig .tc := ⟨.hbm, 164, rfl⟩
abbrev main_cst_8 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x1024 : Shape := ⟨3, ![8, 2048, 1024]⟩
abbrev S8x2048x512 : Shape := ⟨3, ![8, 2048, 512]⟩
abbrev S1x1024 : Shape := ⟨2, ![1, 1024]⟩
abbrev S1024x2048 : Shape := ⟨2, ![1024, 2048]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S256x2816 : Shape := ⟨2, ![256, 2816]⟩

abbrev nBuf : Space → Nat
  | .hbm => 26
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x512, .bf16⟩
  | .hbm, ⟨3, _⟩ => ⟨S1x1024, .f32⟩
  | .hbm, ⟨4, _⟩ => ⟨S1024x2048, .bf16⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S1x1024, .f32⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024x2816, .f32⟩
  | .hbm, ⟨20, _⟩ => ⟨S1024x2816, .bf16⟩
  | .hbm, ⟨21, _⟩ => ⟨S1024x2816, .f32⟩
  | .hbm, ⟨22, _⟩ => ⟨S1024x2816, .bf16⟩
  | .hbm, ⟨23, _⟩ => ⟨S2816x1024, .f32⟩
  | .hbm, ⟨24, _⟩ => ⟨S2816x1024, .bf16⟩
  | .hbm, ⟨25, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x256x1024, .f32⟩
  | .local _ .vmem, ⟨15, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x2048x1024 : Shape := ⟨3, ![8, 2048, 1024]⟩
abbrev S8x2048x512 : Shape := ⟨3, ![8, 2048, 512]⟩
abbrev S1x1024 : Shape := ⟨2, ![1, 1024]⟩
abbrev S1024x2048 : Shape := ⟨2, ![1024, 2048]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S512x1024 : Shape := ⟨2, ![512, 1024]⟩
abbrev S1024x1024 : Shape := ⟨2, ![1024, 1024]⟩
abbrev S1024x2816 : Shape := ⟨2, ![1024, 2816]⟩
abbrev S8x2048x2816 : Shape := ⟨3, ![8, 2048, 2816]⟩
abbrev S2816x1024 : Shape := ⟨2, ![2816, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x512, .bf16⟩
  | .hbm, ⟨3, _⟩ => ⟨S1x1024, .f32⟩
  | .hbm, ⟨4, _⟩ => ⟨S1024x2048, .bf16⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S1024x2048, .f32⟩
  | .hbm, ⟨29, _⟩ => ⟨S8x2048x2048, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S8x2048x512, .f32⟩
  | .hbm, ⟨51, _⟩ => ⟨S512x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S1024x1024, .f32⟩
  | .hbm, ⟨56, _⟩ => ⟨S8x2048x1024, .f32⟩
  | .hbm, ⟨57, _⟩ => ⟨S8x2048x1024, .f32⟩
  | .hbm, ⟨58, _⟩ => ⟨S1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S1024x2816, .f32⟩
  | .hbm, ⟨76, _⟩ => ⟨S8x2048x2816, .f32⟩
  | .hbm, ⟨77, _⟩ => ⟨S8x2048x2816, .f32⟩
  | .hbm, ⟨78, _⟩ => ⟨S8x2048x2816, .f32⟩
  | .hbm, ⟨79, _⟩ => ⟨S_, .f32⟩
  | .hbm, ⟨80, _⟩ => ⟨S8x2048x2816, .f32⟩
  | .hbm, ⟨81, _⟩ => ⟨S8x2048x2816, .f32⟩
  | .hbm, ⟨82, _⟩ => ⟨S_, .f32⟩
  | .hbm, ⟨83, _⟩ => ⟨S8x2048x2816, .f32⟩
  | .hbm, ⟨84, _⟩ => ⟨S8x2048x2816, .f32⟩
  | .hbm, ⟨85, _⟩ => ⟨S8x2048x2816, .f32⟩
  | .hbm, ⟨86, _⟩ => ⟨S1024x2816, .f32⟩
  | .hbm, ⟨87, _⟩ => ⟨S8x2048x2816, .f32⟩
  | .hbm, ⟨88, _⟩ => ⟨S8x2048x2816, .f32⟩
  | .hbm, ⟨89, _⟩ => ⟨S2816x1024, .f32⟩
  | .hbm, ⟨90, _⟩ => ⟨S8x2048x1024, .f32⟩
  | .hbm, ⟨91, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Proof.S5.Struct.lean ====
/- The body of the `s5_branch` call written with its recurrence as a recursion: `scanN` runs the last `n` steps of the
   recurrence in the scratch array, `half` one half of the state columns, `pro` what precedes the
   scans and `tail` what follows them. -/
module

public import proofs.«01_k».proof.Proof.Gen.KernelIdeal

@[expose] public section

noncomputable section

namespace Cert.KernelIdeal.S5

open Idealize.ShloMosaic Idealize.SL.Sem
open Cert.KernelIdeal.Facts₀ Cert.KernelIdeal.Facts

variable {F : FTy → Type} [FloatOps F]

/-- Programs of the region's body. -/
abbrev BProg (α : Type) : Type 1 := Prog (TpuEff nD τ sig (Elt F) Λ₀ .tc) α

/-- A block of 8 rows and 1024 columns, in range. -/
theorem inb8 (r c : Nat) (hr : r + 8 ≤ 1024) (hc : c + 1024 ≤ 4096) :
    ∀ a, (![r, c] : Fin 2 → Nat) a + S8x1024.size a ≤ S1024x4096.size a :=
  Fin.forall_fin_two.2 ⟨hr, hc⟩

/-- The rows of a step are in range. -/
theorem row_le (n : Nat) : 8 * (128 - (n + 1)) + 8 ≤ 1024 := by omega

/-- 1024 columns of an array of 8 rows and 4096 columns, in range. -/
theorem inbS (c : Nat) (hc : c + 1024 ≤ 4096) :
    ∀ a, (![0, c] : Fin 2 → Nat) a + S8x1024.size a ≤ S8x4096.size a :=
  Fin.forall_fin_two.2 ⟨Nat.le_refl _, hc⟩

/-- 1024 columns of an array of 8 rows and 2048 columns, in range. -/
theorem inbA (c : Nat) (hc : c + 1024 ≤ 2048) :
    ∀ a, (![0, c] : Fin 2 → Nat) a + S8x1024.size a ≤ S8x2048.size a :=
  Fin.forall_fin_two.2 ⟨Nat.le_refl _, hc⟩

/-- 2048 columns of the scratch array, in range. -/
theorem inbB (c : Nat) (hc : c + 2048 ≤ 4096) :
    ∀ a, (![0, c] : Fin 2 → Nat) a + S1024x2048.size a ≤ S1024x4096.size a :=
  Fin.forall_fin_two.2 ⟨Nat.le_refl _, hc⟩

/-- The last `n` of 128 steps of the recurrence, in place in the columns `cr …` and `ci …` of the scratch array. -/
def scanN {α : Type} (arg13 : Memref sig .tc .vmem S1024x4096 .f32) (cr ci : Nat) (hr : cr + 1024 ≤ 4096) (hi : ci + 1024 ≤ 4096)
    (ar ai : FVec F S8x1024 .f32) : (n : Nat) → n ≤ 128 → (sr si : FVec F S8x1024 .f32) →
      (FVec F S8x1024 .f32 → FVec F S8x1024 .f32 → BProg (F := F) α) → BProg (F := F) α
  | 0, _, sr, si, K => K sr si
  | n + 1, h, sr, si, K =>
    .op (.load arg13 (Rect.unit (s := S1024x4096) ![8 * (128 - (n + 1)), cr] S8x1024.size (inb8 _ _ (row_le n) hr)).toLoadRect (View.loadsAt_vmem h_S8x1024)) fun (br : Vec F S8x1024 .f32) =>
    .op (.load arg13 (Rect.unit (s := S1024x4096) ![8 * (128 - (n + 1)), ci] S8x1024.size (inb8 _ _ (row_le n) hi)).toLoadRect (View.loadsAt_vmem h_S8x1024)) fun (bi : Vec F S8x1024 .f32) =>
    .op (.load arg13 (Rect.unit (s := S1024x4096) ![8 * (128 - (n + 1)), cr] S8x1024.size (inb8 _ _ (row_le n) hr)).toLoadRect (View.loadsAt_vmem h_S8x1024)) fun _ =>
    .op (.store arg13 (Rect.unit (s := S1024x4096) ![8 * (128 - (n + 1)), cr] S8x1024.size (inb8 _ _ (row_le n) hr))
      (shapeCast S8x1024 (addf (subf (mulf ar sr) (mulf ai si)) br) shapeCasts_S8x1024_S8x1024) Finset.univ (View.stores_vmem_bits_univ h_S8x1024 rfl) (.inl rfl)) fun _ =>
    .op (.load arg13 (Rect.unit (s := S1024x4096) ![8 * (128 - (n + 1)), ci] S8x1024.size (inb8 _ _ (row_le n) hi)).toLoadRect (View.loadsAt_vmem h_S8x1024)) fun _ =>
    .op (.store arg13 (Rect.unit (s := S1024x4096) ![8 * (128 - (n + 1)), ci] S8x1024.size (inb8 _ _ (row_le n) hi))
      (shapeCast S8x1024 (addf (addf (mulf ar si) (mulf ai sr)) bi) shapeCasts_S8x1024_S8x1024) Finset.univ (View.stores_vmem_bits_univ h_S8x1024 rfl) (.inl rfl)) fun _ =>
    scanN arg13 cr ci hr hi ar ai n (Nat.le_of_succ_le h) (addf (subf (mulf ar sr) (mulf ai si)) br) (addf (addf (mulf ar si) (mulf ai sr)) bi) K

/-- One half of the state: the scan over its columns from the kept state, the last state kept, and the product of the
    half's states with its output matrix. -/
def half {α : Type} (arg6 arg7 : Memref sig .tc .vmem S8x2048 .f32) (arg13 : Memref sig .tc .vmem S1024x4096 .f32)
    (arg14 : Memref sig .tc .vmem S8x4096 .f32) (cm : Memref sig .tc .vmem S2048x256 .bf16) (ca cr ci : Nat)
    (ha : ca + 1024 ≤ 2048) (hr : cr + 1024 ≤ 4096) (hi : ci + 1024 ≤ 4096) (hb : cr + 2048 ≤ 4096)
    (K : FVec F S1024x256 .f32 → BProg (F := F) α) : BProg (F := F) α :=
  .op (.load arg6 (Rect.unit (s := S8x2048) ![0, ca] S8x1024.size (inbA ca ha)).toLoadRect (View.loadsAt_vmem h_S8x1024)) fun (v21 : Vec F S8x1024 .f32) =>
  .op (.load arg7 (Rect.unit (s := S8x2048) ![0, ca] S8x1024.size (inbA ca ha)).toLoadRect (View.loadsAt_vmem h_S8x1024)) fun (v23 : Vec F S8x1024 .f32) =>
  .op (.load arg14 (Rect.unit (s := S8x4096) ![0, cr] S8x1024.size (inbS cr hr)).toLoadRect (View.loadsAt_vmem h_S8x1024)) fun (v25 : Vec F S8x1024 .f32) =>
  .op (.load arg14 (Rect.unit (s := S8x4096) ![0, ci] S8x1024.size (inbS ci hi)).toLoadRect (View.loadsAt_vmem h_S8x1024)) fun (v26 : Vec F S8x1024 .f32) =>
  scanN arg13 cr ci hr hi (shapeCast S8x1024 v21 shapeCasts_S8x1024_S8x1024) (shapeCast S8x1024 v23 shapeCasts_S8x1024_S8x1024) 128 (Nat.le_refl _) v25 v26 fun sr si =>
  .op (.load arg14 (Rect.unit (s := S8x4096) ![0, cr] S8x1024.size (inbS cr hr)).toLoadRect (View.loadsAt_vmem h_S8x1024)) fun _ =>
  .op (.store arg14 (Rect.unit (s := S8x4096) ![0, cr] S8x1024.size (inbS cr hr))
    (shapeCast S8x1024 sr shapeCasts_S8x1024_S8x1024) Finset.univ (View.stores_vmem_bits_univ h_S8x1024 rfl) (.inl rfl)) fun _ =>
  .op (.load arg14 (Rect.unit (s := S8x4096) ![0, ci] S8x1024.size (inbS ci hi)).toLoadRect (View.loadsAt_vmem h_S8x1024)) fun _ =>
  .op (.store arg14 (Rect.unit (s := S8x4096) ![0, ci] S8x1024.size (inbS ci hi))
    (shapeCast S8x1024 si shapeCasts_S8x1024_S8x1024) Finset.univ (View.stores_vmem_bits_univ h_S8x1024 rfl) (.inl rfl)) fun _ =>
  .op (.load arg13 (Rect.unit (s := S1024x4096) ![0, cr] S1024x2048.size (inbB cr hb)).toLoadRect (View.loadsAt_vmem h_S1024x2048)) fun (v2081 : Vec F S1024x2048 .f32) =>
  .op (.load cm (Rect.unit (s := S2048x256) ![0, 0] S2048x256.size inb_S2048x256_S2048x256_0_0).toLoadRect (View.loadsAt_vmem h_S2048x256)) fun (v2083 : Vec F S2048x256 .bf16) =>
  K (matmul dot_S1024x2048_S2048x256_S1024x256_1_0_0_1_n_n none (truncf .bf16 v2081 bitsLt_bf16_f32)
    (shapeCast S2048x256 v2083 shapeCasts_S2048x256_S2048x256) (constant S1024x256 .f32 0x00000000#32))

/-- The input's products into the scratch array, then `K` of the input's rows. -/
def pro {α : Type} (arg1 : Memref sig .tc .vmem S8x128x512 .f32) (arg2 arg3 : Memref sig .tc .vmem S256x2048 .bf16)
    (arg13 : Memref sig .tc .vmem S1024x4096 .f32) (K : FVec F S1024x512 .f32 → BProg (F := F) α) : BProg (F := F) α :=
  .op (.load arg1 (Rect.unit (s := S8x128x512) ![0, 0, 0] S8x128x512.size inb_S8x128x512_S8x128x512_0_0_0).toLoadRect (View.loadsAt_vmem h_S8x128x512)) fun (v3 : Vec F S8x128x512 .f32) =>
  have v5 : FVec F S1024x512 .f32 := shapeCast S1024x512 (transpose S128x8x512 [1, 0, 2] v3 transposes_S8x128x512_p1_0_2_S128x8x512) shapeCasts_S128x8x512_S1024x512
  .op (.load arg2 (Rect.unit (s := S256x2048) ![0, 0] S256x2048.size inb_S256x2048_S256x2048_0_0).toLoadRect (View.loadsAt_vmem h_S256x2048)) fun (v8 : Vec F S256x2048 .bf16) =>
  .op (.load arg13 (Rect.unit (s := S1024x4096) ![0, 0] S1024x2048.size inb_S1024x4096_S1024x2048_0_0).toLoadRect (View.loadsAt_vmem h_S1024x2048)) fun _ =>
  .op (.store arg13 (Rect.unit (s := S1024x4096) ![0, 0] S1024x2048.size inb_S1024x4096_S1024x2048_0_0)
    (shapeCast S1024x2048 (matmul dot_S1024x256_S256x2048_S1024x2048_1_0_0_1_n_n none
      (extractStridedSlice S1024x256 ![0, 0] (truncf .bf16 v5 bitsLt_bf16_f32) slices_S1024x512_o0_0_S1024x256)
      (shapeCast S256x2048 v8 shapeCasts_S256x2048_S256x2048) (constant S1024x2048 .f32 0x00000000#32)) shapeCasts_S1024x2048_S1024x2048)
    Finset.univ (View.stores_vmem_bits_univ h_S1024x2048 rfl) (.inl rfl)) fun _ =>
  .op (.load arg3 (Rect.unit (s := S256x2048) ![0, 0] S256x2048.size inb_S256x2048_S256x2048_0_0).toLoadRect (View.loadsAt_vmem h_S256x2048)) fun (v15 : Vec F S256x2048 .bf16) =>
  .op (.load arg13 (Rect.unit (s := S1024x4096) ![0, 2048] S1024x2048.size inb_S1024x4096_S1024x2048_0_2048).toLoadRect (View.loadsAt_vmem h_S1024x2048)) fun _ =>
  .op (.store arg13 (Rect.unit (s := S1024x4096) ![0, 2048] S1024x2048.size inb_S1024x4096_S1024x2048_0_2048)
    (shapeCast S1024x2048 (matmul dot_S1024x256_S256x2048_S1024x2048_1_0_0_1_n_n none
      (extractStridedSlice S1024x256 ![0, 256] (truncf .bf16 v5 bitsLt_bf16_f32) slices_S1024x512_o0_256_S1024x256)
      (shapeCast S256x2048 v15 shapeCasts_S256x2048_S256x2048) (constant S1024x2048 .f32 0x00000000#32)) shapeCasts_S1024x2048_S1024x2048)
    Finset.univ (View.stores_vmem_bits_univ h_S1024x2048 rfl) (.inl rfl)) fun _ =>
  K v5

/-- The skip term and the tanh form of gelu over the two halves' products. -/
def geluOf (v5 : FVec F S1024x512 .f32) (v2085 v4150 : FVec F S1024x256 .f32) (v4152 : FVec F S1x512 .f32) : FVec F S1024x512 .f32 :=
  have v4156 : FVec F S1024x512 .f32 := addf (concatenate S1024x512 1 [⟨S1024x256, v2085⟩, ⟨S1024x256, v4150⟩] concatenates_S1024x256_S1024x256_S1024x512_d1)
    (mulf (broadcastTo S1024x512 (shapeCast S1x512 v4152 shapeCasts_S1x512_S1x512) broadcasts_S1x512_S1024x512) v5)
  mulf v4156 (mulf (broadcast S1024x512 (Scalar.ofBits .f32 0x3F000000#32)) (addf (broadcast S1024x512 (Scalar.ofBits .f32 0x3F800000#32))
    (tanh (mulf (broadcast S1024x512 (Scalar.ofBits .f32 0x3F4C422A#32)) (addf v4156 (mulf (broadcast S1024x512 (Scalar.ofBits .f32 0x3D372713#32)) (mulf v4156 (mulf v4156 v4156))))))))

/-- The gated linear unit and the projection over gelu's values, as the rows of the result's block. -/
def outOf (v4169 : FVec F S1024x512 .f32) (v4171 : FVec F S512x512 .bf16) (v4174 : FVec F S1x512 .f32) (v4181 : FVec F S512x1024 .bf16) :
    FVec F S8x128x1024 .bf16 :=
  truncf .bf16 (transpose S8x128x1024 [1, 0, 2] (shapeCast S128x8x1024
    (matmul dot_S1024x512_S512x1024_S1024x1024_1_0_0_1_n_n none
      (truncf .bf16 (mulf v4169 (logistic (addf
        (matmul dot_S1024x512_S512x512_S1024x512_1_0_0_1_n_n none (truncf .bf16 v4169 bitsLt_bf16_f32)
          (shapeCast S512x512 v4171 shapeCasts_S512x512_S512x512) (constant S1024x512 .f32 0x00000000#32))
        (broadcastTo S1024x512 (shapeCast S1x512 v4174 shapeCasts_S1x512_S1x512) broadcasts_S1x512_S1024x512)))) bitsLt_bf16_f32)
      (shapeCast S512x1024 v4181 shapeCasts_S512x1024_S512x1024) (constant S1024x1024 .f32 0x00000000#32))
    shapeCasts_S1024x1024_S128x8x1024) transposes_S128x8x1024_p1_0_2_S8x128x1024) bitsLt_bf16_f32

/-- What follows the scans: skip term, gelu, gated linear unit, projection, and the store of the result's block. -/
def tail (arg8 : Memref sig .tc .vmem S1x512 .f32) (arg9 : Memref sig .tc .vmem S512x512 .bf16) (arg10 : Memref sig .tc .vmem S1x512 .f32)
    (arg11 : Memref sig .tc .vmem S512x1024 .bf16) (arg12 : Memref sig .tc .vmem S8x128x1024 .bf16) (harg12 : arg12.IsWhole)
    (v5 : FVec F S1024x512 .f32) (v2085 v4150 : FVec F S1024x256 .f32) : BProg (F := F) PUnit :=
  .op (.load arg8 (Rect.unit (s := S1x512) ![0, 0] S1x512.size inb_S1x512_S1x512_0_0).toLoadRect (View.loadsAt_vmem h_S1x512)) fun (v4152 : Vec F S1x512 .f32) =>
  .op (.load arg9 (Rect.unit (s := S512x512) ![0, 0] S512x512.size inb_S512x512_S512x512_0_0).toLoadRect (View.loadsAt_vmem h_S512x512)) fun (v4171 : Vec F S512x512 .bf16) =>
  .op (.load arg10 (Rect.unit (s := S1x512) ![0, 0] S1x512.size inb_S1x512_S1x512_0_0).toLoadRect (View.loadsAt_vmem h_S1x512)) fun (v4174 : Vec F S1x512 .f32) =>
  .op (.load arg11 (Rect.unit (s := S512x1024) ![0, 0] S512x1024.size inb_S512x1024_S512x1024_0_0).toLoadRect (View.loadsAt_vmem h_S512x1024)) fun (v4181 : Vec F S512x1024 .bf16) =>
  .op (.load arg12 (Rect.unit (s := S8x128x1024) ![0, 0, 0] S8x128x1024.size inb_S8x128x1024_S8x128x1024_0_0_0).toLoadRect (View.loadsAt_vmem h_S8x128x1024)) fun _ =>
  .op (.store arg12 (Rect.unit (s := S8x128x1024) ![0, 0, 0] S8x128x1024.size inb_S8x128x1024_S8x128x1024_0_0_0)
    (outOf (geluOf v5 v2085 v4150 v4152) v4171 v4174 v4181) Finset.univ
    (View.stores_vmem h_S8x128x1024 (harg12.storeExact_slice rfl _ packedbf16_S8x128x1024_S8x128x1024_0_0_0) (fun _ => rfl)) (.inl rfl)) fun _ =>
  .ret ⟨⟩

/-- The zeroing of the kept state, at the first grid point only, then `k`. -/
def zeroThen {α : Type} (i : grid1.Coords) (arg14 : Memref sig .tc .vmem S8x4096 .f32) (k : BProg (F := F) α) : BProg (F := F) α :=
  if h : Scalar.cmpi .ne ((Scalar.extui (Scalar.cmpi .eq (BitVec.ofNat 32 (i 0).val) 0#32) : BitVec 32)) 0#32 = 1#1 then
    .op (.load arg14 (Rect.unit (s := S8x4096) ![0, 0] S8x4096.size inb_S8x4096_S8x4096_0_0).toLoadRect (View.loadsAt_vmem h_S8x4096)) fun _ =>
    .op (.store arg14 (Rect.unit (s := S8x4096) ![0, 0] S8x4096.size inb_S8x4096_S8x4096_0_0)
      (shapeCast S8x4096 (broadcast S8x4096 (Scalar.ofBits .f32 0x00000000#32)) shapeCasts_S8x4096_S8x4096) Finset.univ
      (View.stores_vmem_bits_univ h_S8x4096 rfl) (.inl rfl)) fun _ => k
  else k

/-- Sequencing after the zeroing. -/
theorem zeroThen_bind {α β : Type} (i : grid1.Coords) (arg14 : Memref sig .tc .vmem S8x4096 .f32) (k : BProg (F := F) α)
    (f : α → BProg (F := F) β) : zeroThen i arg14 k >>= f = zeroThen i arg14 (k >>= f) := by
  unfold zeroThen
  split <;> rfl

/-- The body of the `s5_branch` call with its recurrence written as a recursion. -/
def body (i : grid1.Coords)
    (arg1 : Memref sig .tc .vmem S8x128x512 .f32) (harg1 : arg1.IsWhole)
    (arg2 : Memref sig .tc .vmem S256x2048 .bf16) (harg2 : arg2.IsWhole)
    (arg3 : Memref sig .tc .vmem S256x2048 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S1x512 .f32) (harg8 : arg8.IsWhole)
    (arg9 : Memref sig .tc .vmem S512x512 .bf16) (harg9 : arg9.IsWhole)
    (arg10 : Memref sig .tc .vmem S1x512 .f32) (harg10 : arg10.IsWhole)
    (arg11 : Memref sig .tc .vmem S512x1024 .bf16) (harg11 : arg11.IsWhole)
    (arg12 : Memref sig .tc .vmem S8x128x1024 .bf16) (harg12 : arg12.IsWhole)
    (arg13 : Memref sig .tc .vmem S1024x4096 .f32) (harg13 : arg13.IsWhole)
    (arg14 : Memref sig .tc .vmem S8x4096 .f32) (harg14 : arg14.IsWhole) : BProg (F := F) PUnit :=
  zeroThen i arg14 <|
  pro arg1 arg2 arg3 arg13 fun v5 =>
  half arg6 arg7 arg13 arg14 arg4 0 0 1024 (by decide) (by decide) (by decide) (by decide) fun v2085 =>
  half arg6 arg7 arg13 arg14 arg5 1024 2048 3072 (by decide) (by decide) (by decide) (by decide) fun v4150 =>
  tail arg8 arg9 arg10 arg11 arg12 harg12 v5 v2085 v4150

end Cert.KernelIdeal.S5

end
-- ==== Proof.S5.Equal.lean ====
/- The printed body of the `s5_branch` call is the recursion of `S5.body`, operation by operation. -/
module

public import proofs.«01_k».proof.Proof.S5.Struct

@[expose] public section

noncomputable section

namespace Cert.KernelIdeal.S5

open Idealize.ShloMosaic Idealize.SL.Sem

variable {F : FTy → Type} [FloatOps F]

/-- One operation of two programs that agree after it. -/
theorem op_eq {E : Type → Type} {β α : Type} {e : E β} {k k' : β → Prog E α} (h : ∀ x, k x = k' x) : Prog.op e k = Prog.op e k' :=
  congrArg (Prog.op e) (funext h)

set_option maxHeartbeats 0 in
set_option maxRecDepth 20000 in
/-- The printed body of `s5_branch` is `body`: the same loads, products and stores in the same order. The proof walks both
programs one operation at a time; in the scan the new state is given a name at every step, so that a step's goal does not
grow with the steps before it. -/
theorem body_eq (i : grid1.Coords)
    (arg1 : Memref sig .tc .vmem S8x128x512 .f32) (harg1 : arg1.IsWhole)
    (arg2 : Memref sig .tc .vmem S256x2048 .bf16) (harg2 : arg2.IsWhole)
    (arg3 : Memref sig .tc .vmem S256x2048 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S1x512 .f32) (harg8 : arg8.IsWhole)
    (arg9 : Memref sig .tc .vmem S512x512 .bf16) (harg9 : arg9.IsWhole)
    (arg10 : Memref sig .tc .vmem S1x512 .f32) (harg10 : arg10.IsWhole)
    (arg11 : Memref sig .tc .vmem S512x1024 .bf16) (harg11 : arg11.IsWhole)
    (arg12 : Memref sig .tc .vmem S8x128x1024 .bf16) (harg12 : arg12.IsWhole)
    (arg13 : Memref sig .tc .vmem S1024x4096 .f32) (harg13 : arg13.IsWhole)
    (arg14 : Memref sig .tc .vmem S8x4096 .f32) (harg14 : arg14.IsWhole) :
    cc1_s5_branch (F := F) i arg1 harg1 arg2 harg2 arg3 harg3 arg4 harg4 arg5 harg5 arg6 harg6 arg7 harg7 arg8 harg8 arg9 harg9 arg10 harg10 arg11 harg11 arg12 harg12 arg13 harg13 arg14 harg14 =
      body i arg1 harg1 arg2 harg2 arg3 harg3 arg4 harg4 arg5 harg5 arg6 harg6 arg7 harg7 arg8 harg8 arg9 harg9 arg10 harg10 arg11 harg11 arg12 harg12 arg13 harg13 arg14 harg14 := by
  unfold cc1_s5_branch k1_part114 k1_part1 body
  refine (congrArg (· >>= _) (congrArg (· >>= _) (show _ = zeroThen i arg14 _ from rfl))).trans ?_
  refine (congrArg (· >>= _) (zeroThen_bind _ _ _ _)).trans ((zeroThen_bind _ _ _ _).trans ?_)
  refine congrArg (zeroThen i arg14) ?_
  unfold pro half tail
  conv_lhs => whnf
  iterate 7
    refine op_eq fun x => ?_
    conv_lhs => whnf
  refine op_eq fun v21 => ?_
  conv_lhs => whnf
  refine op_eq fun v23 => ?_
  conv_lhs => whnf
  refine op_eq fun sr => ?_
  conv_lhs => whnf
  refine op_eq fun si => ?_
  conv_lhs => whnf
  generalize shapeCast S8x1024 v21 _ = ar
  generalize shapeCast S8x1024 v23 _ = ai
  conv_rhs => whnf
  iterate 128
    refine op_eq fun br => ?_
    conv_lhs => whnf
    refine op_eq fun bi => ?_
    conv_lhs => whnf
    refine op_eq fun x1 => ?_
    conv_lhs => whnf
    refine op_eq fun x2 => ?_
    conv_lhs => whnf
    refine op_eq fun x3 => ?_
    conv_lhs => whnf
    refine op_eq fun x4 => ?_
    conv_lhs => whnf
    conv_rhs => whnf
    obtain ⟨sr1, hr⟩ : ∃ s, addf (subf (mulf ar sr) (mulf ai si)) br = s := ⟨_, rfl⟩
    obtain ⟨si1, hi⟩ : ∃ s, addf (addf (mulf ar si) (mulf ai sr)) bi = s := ⟨_, rfl⟩
    rw [hr, hi]
    clear hr hi sr si br bi x1 x2 x3 x4
    rename' sr1 => sr, si1 => si
  iterate 6
    refine op_eq fun x => ?_
    conv_lhs => whnf
  refine op_eq fun v21 => ?_
  conv_lhs => whnf
  refine op_eq fun v23 => ?_
  conv_lhs => whnf
  refine op_eq fun sr => ?_
  conv_lhs => whnf
  refine op_eq fun si => ?_
  conv_lhs => whnf
  generalize shapeCast S8x1024 v21 _ = ar
  generalize shapeCast S8x1024 v23 _ = ai
  conv_rhs => whnf
  iterate 128
    refine op_eq fun br => ?_
    conv_lhs => whnf
    refine op_eq fun bi => ?_
    conv_lhs => whnf
    refine op_eq fun x1 => ?_
    conv_lhs => whnf
    refine op_eq fun x2 => ?_
    conv_lhs => whnf
    refine op_eq fun x3 => ?_
    conv_lhs => whnf
    refine op_eq fun x4 => ?_
    conv_lhs => whnf
    conv_rhs => whnf
    obtain ⟨sr1, hr⟩ : ∃ s, addf (subf (mulf ar sr) (mulf ai si)) br = s := ⟨_, rfl⟩
    obtain ⟨si1, hi⟩ : ∃ s, addf (addf (mulf ar si) (mulf ai sr)) bi = s := ⟨_, rfl⟩
    rw [hr, hi]
    clear hr hi sr si br bi x1 x2 x3 x4
    rename' sr1 => sr, si1 => si
  iterate 6
    refine op_eq fun x => ?_
    conv_lhs => whnf
  iterate 6
    refine op_eq fun x => ?_
    conv_lhs => whnf

end Cert.KernelIdeal.S5

end
-- ==== Proof.S5.Disc.lean ====
/- The body of the `s5_discretise` call with its thirty-two stores of columns written as a recursion, and the matrices it stores. -/
module

public import proofs.«01_k».proof.Proof.S5.Equal

@[expose] public section

noncomputable section

namespace Cert.KernelIdeal.S5

open Idealize.ShloMosaic Idealize.SL.Sem
open Cert.KernelIdeal.Facts₀ Cert.KernelIdeal.Facts

variable {F : FTy → Type} [FloatOps F]

/-- Division of each element by `d`, rounded down. -/
def floorDiv {s : Shape} (x : IVec s 32) (d : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt d 0#32)) (Scalar.extui (Scalar.cmpi .slt d 0#32)))))
    (cmpi .ne (remsi x (broadcast s d)) (broadcast s 0#32)))
    (subi (divsi x (broadcast s d)) (broadcast s 1#32)) (divsi x (broadcast s d))

/-- One where `col` modulo `d` is `row`, zero elsewhere. -/
def repeatMat {s : Shape} (hb : s.Broadcasts s) (row col : IVec s 32) (d : BitVec 32) : FVec F s .bf16 :=
  have e : BitVec 32 := Scalar.select (Scalar.cmpi .eq d 0#32) 1#32 d
  have m : IVec s 32 := remsi col (broadcast s e)
  truncf .bf16 (select (cmpi .eq (select (andi (xori (cmpi .slt m (broadcast s 0#32)) (broadcastTo s (broadcast s (Scalar.cmpi .slt e 0#32)) hb))
      (cmpi .ne m (broadcast s 0#32))) (addi m (broadcast s e)) m) row)
    (broadcast s (Scalar.ofBits .f32 0x3F800000#32)) (broadcast s (Scalar.ofBits .f32 0x00000000#32))) bitsLt_bf16_f32

/-- One part of the input matrix: 16 groups' blocks on the diagonal. -/
def inPart (x : FVec F S512x64 .bf16) (o : Nat) (h : Shape.Slices S512x64 ![o, 0] S256x64) : FVec F S256x1024 .bf16 :=
  truncf .bf16 (select (cmpi .eq (floorDiv (iota .tc S256x1024 32 [0] iota_S256x1024_d0_w32) 16#32) (floorDiv (iota .tc S256x1024 32 [1] iota_S256x1024_d1_w32) 64#32))
    (matmul dot_S256x64_S64x1024_S256x1024_1_0_0_1_n_n none (extractStridedSlice S256x64 ![o, 0] x h)
      (repeatMat broadcasts_S64x1024_S64x1024 (iota .tc S64x1024 32 [0] iota_S64x1024_d0_w32) (iota .tc S64x1024 32 [1] iota_S64x1024_d1_w32) 64#32)
      (constant S256x1024 .f32 0x00000000#32))
    (broadcast S256x1024 (Scalar.ofBits .f32 0x00000000#32))) bitsLt_bf16_f32

/-- One part of the output matrix: 16 groups' blocks on the diagonal. -/
def outPart (x : FVec F S2048x16 .bf16) (o : Nat) (h : Shape.Slices S2048x16 ![o, 0] S1024x16) : FVec F S1024x256 .bf16 :=
  truncf .bf16 (select (cmpi .eq (floorDiv (iota .tc S1024x256 32 [0] iota_S1024x256_d0_w32) 64#32) (floorDiv (iota .tc S1024x256 32 [1] iota_S1024x256_d1_w32) 16#32))
    (matmul dot_S1024x16_S16x256_S1024x256_1_0_0_1_n_n none (extractStridedSlice S1024x16 ![o, 0] x h)
      (repeatMat broadcasts_S16x256_S16x256 (iota .tc S16x256 32 [0] iota_S16x256_d0_w32) (iota .tc S16x256 32 [1] iota_S16x256_d1_w32) 16#32)
      (constant S1024x256 .f32 0x00000000#32))
    (broadcast S1024x256 (Scalar.ofBits .f32 0x00000000#32))) bitsLt_bf16_f32

section Values
variable (re im ldt br bi : FVec F S512x64 .f32)
/-- exp(Re(A) Δ). -/
def mag : FVec F S512x64 .f32 := exp (mulf (shapeCast S512x64 re shapeCasts_S512x64_S512x64) (exp (shapeCast S512x64 ldt shapeCasts_S512x64_S512x64)))
/-- Im(A) Δ. -/
def angle : FVec F S512x64 .f32 := mulf (shapeCast S512x64 im shapeCasts_S512x64_S512x64) (exp (shapeCast S512x64 ldt shapeCasts_S512x64_S512x64))
/-- The discretised state matrix, real part. -/
def abarR : FVec F S512x64 .f32 := mulf (mag re ldt) (cos (angle im ldt))
/-- The discretised state matrix, imaginary part. -/
def abarI : FVec F S512x64 .f32 := mulf (mag re ldt) (sin (angle im ldt))
/-- |A|². -/
def den : FVec F S512x64 .f32 := addf (mulf (shapeCast S512x64 re shapeCasts_S512x64_S512x64) (shapeCast S512x64 re shapeCasts_S512x64_S512x64))
  (mulf (shapeCast S512x64 im shapeCasts_S512x64_S512x64) (shapeCast S512x64 im shapeCasts_S512x64_S512x64))
/-- The discretised state matrix less one, real part. -/
def abarR1 : FVec F S512x64 .f32 := subf (abarR re im ldt) (broadcast S512x64 (Scalar.ofBits .f32 0x3F800000#32))
/-- The input's coefficient, real part. -/
def coefR : FVec F S512x64 .f32 := divf (addf (mulf (abarR1 re im ldt) (shapeCast S512x64 re shapeCasts_S512x64_S512x64))
  (mulf (abarI re im ldt) (shapeCast S512x64 im shapeCasts_S512x64_S512x64))) (den re im)
/-- The input's coefficient, imaginary part. -/
def coefI : FVec F S512x64 .f32 := divf (subf (mulf (abarI re im ldt) (shapeCast S512x64 re shapeCasts_S512x64_S512x64))
  (mulf (abarR1 re im ldt) (shapeCast S512x64 im shapeCasts_S512x64_S512x64))) (den re im)
/-- The discretised input matrix, real part. -/
def bbarR : FVec F S512x64 .bf16 := truncf .bf16 (subf (mulf (coefR re im ldt) (shapeCast S512x64 br shapeCasts_S512x64_S512x64))
  (mulf (coefI re im ldt) (shapeCast S512x64 bi shapeCasts_S512x64_S512x64))) bitsLt_bf16_f32
/-- The discretised input matrix, imaginary part. -/
def bbarI : FVec F S512x64 .bf16 := truncf .bf16 (addf (mulf (coefR re im ldt) (shapeCast S512x64 bi shapeCasts_S512x64_S512x64))
  (mulf (coefI re im ldt) (shapeCast S512x64 br shapeCasts_S512x64_S512x64))) bitsLt_bf16_f32
/-- The output matrix, real part. -/
def cRe (v : FVec F S2048x16 .f32) : FVec F S2048x16 .bf16 := truncf .bf16 (shapeCast S2048x16 v shapeCasts_S2048x16_S2048x16) bitsLt_bf16_f32
/-- The output matrix, negated imaginary part. -/
def cNegIm (v : FVec F S2048x16 .f32) : FVec F S2048x16 .bf16 :=
  truncf .bf16 (subf (broadcast S2048x16 (Scalar.ofBits .f32 0x00000000#32)) (shapeCast S2048x16 v shapeCasts_S2048x16_S2048x16)) bitsLt_bf16_f32
end Values

/-- 64 columns of an array of 8 rows and 2048 columns, in range. -/
theorem inbG (n : Nat) (h : n + 1 ≤ 32) : ∀ a, (![0, 64 * (32 - (n + 1))] : Fin 2 → Nat) a + S8x64.size a ≤ S8x2048.size a :=
  Fin.forall_fin_two.2 ⟨Nat.le_refl _, by show 64 * (32 - (n + 1)) + 64 ≤ 2048; omega⟩
/-- Eight rows of an array of 512 rows, in range. -/
theorem slicesG (n : Nat) (h : n + 1 ≤ 32) : Shape.Slices S512x64 ![16 * (32 - (n + 1)), 0] S8x64 :=
  ⟨rfl, Fin.forall_fin_two.2 ⟨by show 16 * (32 - (n + 1)) + 8 ≤ 512; omega, Nat.le_refl _⟩⟩

/-- The last `n` of the 32 groups' stores of the discretised state matrix. -/
def groupsN {α : Type} (arg7 arg8 : Memref sig .tc .vmem S8x2048 .f32) (ar ai : FVec F S512x64 .f32) :
    (n : Nat) → n ≤ 32 → BProg (F := F) α → BProg (F := F) α
  | 0, _, K => K
  | n + 1, h, K =>
    .op (.load arg7 (Rect.unit (s := S8x2048) ![0, 64 * (32 - (n + 1))] S8x64.size (inbG n h)).toLoadRect (View.loadsAt_vmem h_S8x64)) fun _ =>
    .op (.store arg7 (Rect.unit (s := S8x2048) ![0, 64 * (32 - (n + 1))] S8x64.size (inbG n h))
      (extractStridedSlice S8x64 ![16 * (32 - (n + 1)), 0] ar (slicesG n h)) Finset.univ (View.stores_vmem_bits_univ h_S8x64 rfl) (.inl rfl)) fun _ =>
    .op (.load arg8 (Rect.unit (s := S8x2048) ![0, 64 * (32 - (n + 1))] S8x64.size (inbG n h)).toLoadRect (View.loadsAt_vmem h_S8x64)) fun _ =>
    .op (.store arg8 (Rect.unit (s := S8x2048) ![0, 64 * (32 - (n + 1))] S8x64.size (inbG n h))
      (extractStridedSlice S8x64 ![16 * (32 - (n + 1)), 0] ai (slicesG n h)) Finset.univ (View.stores_vmem_bits_univ h_S8x64 rfl) (.inl rfl)) fun _ =>
    groupsN arg7 arg8 ar ai n (Nat.le_of_succ_le h) K

/-- The body of the `s5_discretise` call with its stores of columns written as a recursion. -/
def disc
    (arg0 : Memref sig .tc .vmem S512x64 .f32) (harg0 : arg0.IsWhole)
    (arg1 : Memref sig .tc .vmem S512x64 .f32) (harg1 : arg1.IsWhole)
    (arg2 : Memref sig .tc .vmem S512x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S2048x16 .f32) (harg5 : arg5.IsWhole)
    (arg6 : Memref sig .tc .vmem S2048x16 .f32) (harg6 : arg6.IsWhole)
    (arg7 : Memref sig .tc .vmem S8x2048 .f32) (harg7 : arg7.IsWhole)
    (arg8 : Memref sig .tc .vmem S8x2048 .f32) (harg8 : arg8.IsWhole)
    (arg9 : Memref sig .tc .vmem S256x2048 .bf16) (harg9 : arg9.IsWhole)
    (arg10 : Memref sig .tc .vmem S256x2048 .bf16) (harg10 : arg10.IsWhole)
    (arg11 : Memref sig .tc .vmem S2048x256 .bf16) (harg11 : arg11.IsWhole)
    (arg12 : Memref sig .tc .vmem S2048x256 .bf16) (harg12 : arg12.IsWhole) : BProg (F := F) PUnit :=
  .op (.load arg0 (Rect.unit (s := S512x64) ![0, 0] S512x64.size inb_S512x64_S512x64_0_0).toLoadRect (View.loadsAt_vmem h_S512x64)) fun (v0 : Vec F S512x64 .f32) =>
  .op (.load arg1 (Rect.unit (s := S512x64) ![0, 0] S512x64.size inb_S512x64_S512x64_0_0).toLoadRect (View.loadsAt_vmem h_S512x64)) fun (v1 : Vec F S512x64 .f32) =>
  .op (.load arg2 (Rect.unit (s := S512x64) ![0, 0] S512x64.size inb_S512x64_S512x64_0_0).toLoadRect (View.loadsAt_vmem h_S512x64)) fun (v2 : Vec F S512x64 .f32) =>
  groupsN arg7 arg8 (abarR v0 v1 v2) (abarI v0 v1 v2) 32 (Nat.le_refl _) <|
  .op (.load arg3 (Rect.unit (s := S512x64) ![0, 0] S512x64.size inb_S512x64_S512x64_0_0).toLoadRect (View.loadsAt_vmem h_S512x64)) fun (v3 : Vec F S512x64 .f32) =>
  .op (.load arg4 (Rect.unit (s := S512x64) ![0, 0] S512x64.size inb_S512x64_S512x64_0_0).toLoadRect (View.loadsAt_vmem h_S512x64)) fun (v4 : Vec F S512x64 .f32) =>
  .op (.load arg5 (Rect.unit (s := S2048x16) ![0, 0] S2048x16.size inb_S2048x16_S2048x16_0_0).toLoadRect (View.loadsAt_vmem h_S2048x16)) fun (v5 : Vec F S2048x16 .f32) =>
  .op (.load arg6 (Rect.unit (s := S2048x16) ![0, 0] S2048x16.size inb_S2048x16_S2048x16_0_0).toLoadRect (View.loadsAt_vmem h_S2048x16)) fun (v6 : Vec F S2048x16 .f32) =>
  .op (.load arg9 (Rect.unit (s := S256x2048) ![0, 0] S256x1024.size inb_S256x2048_S256x1024_0_0).toLoadRect (View.loadsAt_vmem h_S256x1024)) fun _ =>
  .op (.store arg9 (Rect.unit (s := S256x2048) ![0, 0] S256x1024.size inb_S256x2048_S256x1024_0_0) (inPart (bbarR v0 v1 v2 v3 v4) 0 slices_S512x64_o0_0_S256x64) Finset.univ
    (View.stores_vmem h_S256x1024 (harg9.storeExact_slice rfl _ packedbf16_S256x2048_S256x1024_0_0) (fun _ => rfl)) (.inl rfl)) fun _ =>
  .op (.load arg9 (Rect.unit (s := S256x2048) ![0, 1024] S256x1024.size inb_S256x2048_S256x1024_0_1024).toLoadRect (View.loadsAt_vmem h_S256x1024)) fun _ =>
  .op (.store arg9 (Rect.unit (s := S256x2048) ![0, 1024] S256x1024.size inb_S256x2048_S256x1024_0_1024) (inPart (bbarI v0 v1 v2 v3 v4) 0 slices_S512x64_o0_0_S256x64) Finset.univ
    (View.stores_vmem h_S256x1024 (harg9.storeExact_slice rfl _ packedbf16_S256x2048_S256x1024_0_1024) (fun _ => rfl)) (.inl rfl)) fun _ =>
  .op (.load arg11 (Rect.unit (s := S2048x256) ![0, 0] S1024x256.size inb_S2048x256_S1024x256_0_0).toLoadRect (View.loadsAt_vmem h_S1024x256)) fun _ =>
  .op (.store arg11 (Rect.unit (s := S2048x256) ![0, 0] S1024x256.size inb_S2048x256_S1024x256_0_0) (outPart (cRe v5) 0 slices_S2048x16_o0_0_S1024x16) Finset.univ
    (View.stores_vmem h_S1024x256 (harg11.storeExact_slice rfl _ packedbf16_S2048x256_S1024x256_0_0) (fun _ => rfl)) (.inl rfl)) fun _ =>
  .op (.load arg11 (Rect.unit (s := S2048x256) ![1024, 0] S1024x256.size inb_S2048x256_S1024x256_1024_0).toLoadRect (View.loadsAt_vmem h_S1024x256)) fun _ =>
  .op (.store arg11 (Rect.unit (s := S2048x256) ![1024, 0] S1024x256.size inb_S2048x256_S1024x256_1024_0) (outPart (cNegIm v6) 0 slices_S2048x16_o0_0_S1024x16) Finset.univ
    (View.stores_vmem h_S1024x256 (harg11.storeExact_slice rfl _ packedbf16_S2048x256_S1024x256_1024_0) (fun _ => rfl)) (.inl rfl)) fun _ =>
  .op (.load arg10 (Rect.unit (s := S256x2048) ![0, 0] S256x1024.size inb_S256x2048_S256x1024_0_0).toLoadRect (View.loadsAt_vmem h_S256x1024)) fun _ =>
  .op (.store arg10 (Rect.unit (s := S256x2048) ![0, 0] S256x1024.size inb_S256x2048_S256x1024_0_0) (inPart (bbarR v0 v1 v2 v3 v4) 256 slices_S512x64_o256_0_S256x64) Finset.univ
    (View.stores_vmem h_S256x1024 (harg10.storeExact_slice rfl _ packedbf16_S256x2048_S256x1024_0_0) (fun _ => rfl)) (.inl rfl)) fun _ =>
  .op (.load arg10 (Rect.unit (s := S256x2048) ![0, 1024] S256x1024.size inb_S256x2048_S256x1024_0_1024).toLoadRect (View.loadsAt_vmem h_S256x1024)) fun _ =>
  .op (.store arg10 (Rect.unit (s := S256x2048) ![0, 1024] S256x1024.size inb_S256x2048_S256x1024_0_1024) (inPart (bbarI v0 v1 v2 v3 v4) 256 slices_S512x64_o256_0_S256x64) Finset.univ
    (View.stores_vmem h_S256x1024 (harg10.storeExact_slice rfl _ packedbf16_S256x2048_S256x1024_0_1024) (fun _ => rfl)) (.inl rfl)) fun _ =>
  .op (.load arg12 (Rect.unit (s := S2048x256) ![0, 0] S1024x256.size inb_S2048x256_S1024x256_0_0).toLoadRect (View.loadsAt_vmem h_S1024x256)) fun _ =>
  .op (.store arg12 (Rect.unit (s := S2048x256) ![0, 0] S1024x256.size inb_S2048x256_S1024x256_0_0) (outPart (cRe v5) 1024 slices_S2048x16_o1024_0_S1024x16) Finset.univ
    (View.stores_vmem h_S1024x256 (harg12.storeExact_slice rfl _ packedbf16_S2048x256_S1024x256_0_0) (fun _ => rfl)) (.inl rfl)) fun _ =>
  .op (.load arg12 (Rect.unit (s := S2048x256) ![1024, 0] S1024x256.size inb_S2048x256_S1024x256_1024_0).toLoadRect (View.loadsAt_vmem h_S1024x256)) fun _ =>
  .op (.store arg12 (Rect.unit (s := S2048x256) ![1024, 0] S1024x256.size inb_S2048x256_S1024x256_1024_0) (outPart (cNegIm v6) 1024 slices_S2048x16_o1024_0_S1024x16) Finset.univ
    (View.stores_vmem h_S1024x256 (harg12.storeExact_slice rfl _ packedbf16_S2048x256_S1024x256_1024_0) (fun _ => rfl)) (.inl rfl)) fun _ =>
  .ret ⟨⟩

set_option maxHeartbeats 0 in
set_option maxRecDepth 20000 in
/-- The printed body of `s5_discretise` is `disc`. -/
theorem disc_eq
    (arg0 : Memref sig .tc .vmem S512x64 .f32) (harg0 : arg0.IsWhole)
    (arg1 : Memref sig .tc .vmem S512x64 .f32) (harg1 : arg1.IsWhole)
    (arg2 : Memref sig .tc .vmem S512x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S2048x16 .f32) (harg5 : arg5.IsWhole)
    (arg6 : Memref sig .tc .vmem S2048x16 .f32) (harg6 : arg6.IsWhole)
    (arg7 : Memref sig .tc .vmem S8x2048 .f32) (harg7 : arg7.IsWhole)
    (arg8 : Memref sig .tc .vmem S8x2048 .f32) (harg8 : arg8.IsWhole)
    (arg9 : Memref sig .tc .vmem S256x2048 .bf16) (harg9 : arg9.IsWhole)
    (arg10 : Memref sig .tc .vmem S256x2048 .bf16) (harg10 : arg10.IsWhole)
    (arg11 : Memref sig .tc .vmem S2048x256 .bf16) (harg11 : arg11.IsWhole)
    (arg12 : Memref sig .tc .vmem S2048x256 .bf16) (harg12 : arg12.IsWhole) :
    cc0_s5_discretise (F := F) arg0 harg0 arg1 harg1 arg2 harg2 arg3 harg3 arg4 harg4 arg5 harg5 arg6 harg6 arg7 harg7 arg8 harg8 arg9 harg9 arg10 harg10 arg11 harg11 arg12 harg12 = disc arg0 harg0 arg1 harg1 arg2 harg2 arg3 harg3 arg4 harg4 arg5 harg5 arg6 harg6 arg7 harg7 arg8 harg8 arg9 harg9 arg10 harg10 arg11 harg11 arg12 harg12 := by
  unfold cc0_s5_discretise disc
  conv_lhs => whnf
  iterate 3
    refine op_eq fun _ => ?_
    conv_lhs => whnf
  conv_rhs => whnf
  iterate 32
    iterate 4
      refine op_eq fun _ => ?_
      conv_lhs => whnf
    conv_rhs => whnf
  iterate 20
    refine op_eq fun _ => ?_
    conv_lhs => whnf

end Cert.KernelIdeal.S5

end
-- ==== Proof.S5.Rules.lean ====
/- Loads and stores of a window of a whole buffer, stated by what the buffer reads as. -/
module

public import proofs.«01_k».proof.Proof.S5.Struct
public import Idealize.ShloMosaic.Lib.Pipeline.Frame
public import Idealize.ShloMosaic.Lib.Pipeline.FrameBody
public import Idealize.ShloMosaic.Lib.Tactic
public import Idealize.ShloMosaic.Lib.VecWindow

@[expose] public section

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (UR sig nD τ) ℕ

/-- A core's running of a program of the region, from a postcondition. -/
abbrev run {α : Type} (c : Dev nD) (E : Set ℕ) (p : BProg (F := F) α) (K : α → sProp 𝕄) : sProp 𝕄 :=
  wp frame (wpE (defs₀ (F := F)) Variants.none (c : Thread nD τ) none) E p K

/-- A memref whole at what it reads as. -/
abbrev has (c : Dev nD) {s : Shape} {e : EltTy} (M : Memref sig .tc .vmem s e) (X : s.Idx → Elt F e) : sProp 𝕄 :=
  owns (c : Thread nD τ) M fullShare X

/-- A load of a window. -/
theorem load {α : Type} (c : Dev nD) (E : Set ℕ) {s : Shape} {e : EltTy} (M : Memref sig .tc .vmem s e) (X : s.Idx → Elt F e)
    (off size : Fin s.rank → ℕ) (inb : ∀ a, off a + size a ≤ s.size a) (hl : M.view.LoadsAt (Rect.unit (s := s) off size inb).toLoadRect)
    (k : ((Rect.unit (s := s) off size inb).shape.Idx → Elt F e) → BProg (F := F) α) (K : α → sProp 𝕄) :
    iprop(has c M X ∗ (has c M X -∗ run c E (k (window X off size inb)) K))
      ⊢ run c E (.op (.load M (Rect.unit (s := s) off size inb).toLoadRect hl) k) K := by
  unfold has owns
  iintro ⟨⟨%f, %hf, H⟩, Hk⟩
  subst hf
  iapply (wp_load Variants.none (c : Thread nD τ) none E (S := M.view.set) (by exact View.setOn_subset_set _ _)) $$ H
  iintro H
  iapply Hk
  iexists f
  isplitr; · ipureintro; rfl
  iexact H

/-- A store of a window. -/
theorem store {α : Type} (c : Dev nD) (E : Set ℕ) {s : Shape} {e : EltTy} (M : Memref sig .tc .vmem s e) (X : s.Idx → Elt F e)
    (off size : Fin s.rank → ℕ) (inb : ∀ a, off a + size a ≤ s.size a) (w : (Rect.unit (s := s) off size inb).shape.Idx → Elt F e)
    (hx : (M.access (Rect.unit (s := s) off size inb)).Stores Finset.univ) (hm)
    (k : PUnit → BProg (F := F) α) (K : α → sProp 𝕄) :
    iprop(has c M X ∗ (has c M (put X off size w) -∗ run c E (k ⟨⟩) K))
      ⊢ run c E (.op (.store M (Rect.unit (s := s) off size inb) w Finset.univ hx hm) k) K := by
  unfold has owns
  iintro ⟨⟨%f, %hf, H⟩, Hk⟩
  subst hf
  have h := wp_store (defs := defs₀ (F := F)) Variants.none (c : Thread nD τ) none (Γ := .empty) E (Q := K) (m := M) (r := Rect.unit (s := s) off size inb)
    (w := w) (Mk := Finset.univ) (hx := hx) (hm := hm) (k := k) (S := M.view.set) (f := f)
    (Finset.Subset.trans (View.setOn_subset_set _ _) (View.set_slice_subset _ _))
  iapply h $$ H
  iintro H
  iapply Hk
  iexists _
  isplitr
  swap; · iexact H
  ipureintro
  exact View.read_writes_cons_put M.view f inb w [] rfl

end Cert.KernelIdeal.S5

end
-- ==== Proof.S5.Model.lean ====
/- What the body of the `s5_branch` call leaves in its buffers, as functions of what they held, and the triple that says so. -/
module

public import proofs.«01_k».proof.Proof.S5.Rules
public import Idealize.ShloMosaic.Lib.Pointwise.Reshape

@[expose] public section

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.KernelIdeal.Facts₀ Cert.KernelIdeal.Facts

variable {F : FTy → Type} [FloatOps F]

local notation "𝕄" => MT nD τ sig Unit (Elt F) ℕ (UR sig nD τ) ℕ

/-- The real part of one step of the recurrence. -/
abbrev nextR (ar ai sr si br : FVec F S8x1024 .f32) : FVec F S8x1024 .f32 := addf (subf (mulf ar sr) (mulf ai si)) br
/-- The imaginary part of one step of the recurrence. -/
abbrev nextI (ar ai sr si bi : FVec F S8x1024 .f32) : FVec F S8x1024 .f32 := addf (addf (mulf ar si) (mulf ai sr)) bi

/-- Eight rows of 1024 columns of the scratch array. -/
abbrev rows8 (X : FVec F S1024x4096 .f32) (r cc : Nat) (hr : r + 8 ≤ 1024) (hc : cc + 1024 ≤ 4096) : FVec F S8x1024 .f32 :=
  window (s := S1024x4096) X ![r, cc] S8x1024.size (inb8 _ _ hr hc)

/-- The scratch array and the state after the last `n` of 128 steps. -/
def scanF (cr ci : Nat) (hr : cr + 1024 ≤ 4096) (hi : ci + 1024 ≤ 4096) (ar ai : FVec F S8x1024 .f32) :
    (n : Nat) → n ≤ 128 → FVec F S1024x4096 .f32 → FVec F S8x1024 .f32 → FVec F S8x1024 .f32 →
      FVec F S1024x4096 .f32 × FVec F S8x1024 .f32 × FVec F S8x1024 .f32
  | 0, _, X, sr, si => (X, sr, si)
  | n + 1, h, X, sr, si =>
    scanF cr ci hr hi ar ai n (Nat.le_of_succ_le h)
      (put (put X ![8 * (128 - (n + 1)), cr] S8x1024.size
          (nextR ar ai sr si (rows8 X (8 * (128 - (n + 1))) cr (row_le n) hr)))
        ![8 * (128 - (n + 1)), ci] S8x1024.size
          (nextI ar ai sr si (rows8 X (8 * (128 - (n + 1))) ci (row_le n) hi)))
      (nextR ar ai sr si (rows8 X (8 * (128 - (n + 1))) cr (row_le n) hr))
      (nextI ar ai sr si (rows8 X (8 * (128 - (n + 1))) ci (row_le n) hi))

/-- The scan's triple. -/
theorem run_scanN {α : Type} (c : Dev nD) (E : Set ℕ) (arg13 : Memref sig .tc .vmem S1024x4096 .f32) (cr ci : Nat)
    (hr : cr + 1024 ≤ 4096) (hi : ci + 1024 ≤ 4096) (ar ai : FVec F S8x1024 .f32)
    (k : FVec F S8x1024 .f32 → FVec F S8x1024 .f32 → BProg (F := F) α) (K : α → sProp 𝕄) :
    ∀ (n : Nat) (h : n ≤ 128) (X : FVec F S1024x4096 .f32) (sr si : FVec F S8x1024 .f32),
    iprop(has c arg13 X ∗ (has c arg13 (scanF cr ci hr hi ar ai n h X sr si).1 -∗
        run c E (k (scanF cr ci hr hi ar ai n h X sr si).2.1 (scanF cr ci hr hi ar ai n h X sr si).2.2) K))
      ⊢ run c E (scanN arg13 cr ci hr hi ar ai n h sr si k) K
  | 0, h, X, sr, si => by
    unfold scanN scanF
    iintro ⟨H, Hk⟩
    iapply Hk
    iexact H
  | n + 1, h, X, sr, si => by
    unfold scanN scanF
    iintro ⟨H, Hk⟩
    iapply (load c E arg13 _ _ _ _ _ _ K)
    isplitl [H]; · iexact H
    iintro H
    iapply (load c E arg13 _ _ _ _ _ _ K)
    isplitl [H]; · iexact H
    iintro H
    iapply (load c E arg13 _ _ _ _ _ _ K)
    isplitl [H]; · iexact H
    iintro H
    iapply (store c E arg13 _ _ _ _ _ _ _ _ K)
    isplitl [H]; · iexact H
    iintro H
    iapply (load c E arg13 _ _ _ _ _ _ K)
    isplitl [H]; · iexact H
    iintro H
    iapply (store c E arg13 _ _ _ _ _ _ _ _ K)
    isplitl [H]; · iexact H
    iintro H
    simp only [shapeCast_id]
    iapply (run_scanN c E arg13 cr ci hr hi ar ai k K n (Nat.le_of_succ_le h) _ _ _)
    isplitl [H]; · iexact H
    iintro H
    iapply Hk
    iexact H

/-- 1024 columns of the discretised state matrix's row block. -/
abbrev cols (X : FVec F S8x2048 .f32) (ca : Nat) (ha : ca + 1024 ≤ 2048) : FVec F S8x1024 .f32 :=
  window (s := S8x2048) X ![0, ca] S8x1024.size (inbA ca ha)
/-- 1024 columns of the kept state. -/
abbrev stcols (X : FVec F S8x4096 .f32) (cc : Nat) (hc : cc + 1024 ≤ 4096) : FVec F S8x1024 .f32 :=
  window (s := S8x4096) X ![0, cc] S8x1024.size (inbS cc hc)

/-- One half's scan, from the scratch array `X` and the kept state `S`. -/
abbrev halfScan (A6 A7 : FVec F S8x2048 .f32) (ca cr ci : Nat) (ha : ca + 1024 ≤ 2048) (hr : cr + 1024 ≤ 4096) (hi : ci + 1024 ≤ 4096)
    (X : FVec F S1024x4096 .f32) (S : FVec F S8x4096 .f32) : FVec F S1024x4096 .f32 × FVec F S8x1024 .f32 × FVec F S8x1024 .f32 :=
  scanF cr ci hr hi (cols A6 ca ha) (cols A7 ca ha) 128 (Nat.le_refl _) X (stcols S cr hr) (stcols S ci hi)

/-- The kept state after one half's scan. -/
abbrev halfState (A6 A7 : FVec F S8x2048 .f32) (ca cr ci : Nat) (ha : ca + 1024 ≤ 2048) (hr : cr + 1024 ≤ 4096) (hi : ci + 1024 ≤ 4096)
    (X : FVec F S1024x4096 .f32) (S : FVec F S8x4096 .f32) : FVec F S8x4096 .f32 :=
  put (put S ![0, cr] S8x1024.size (halfScan A6 A7 ca cr ci ha hr hi X S).2.1)
    ![0, ci] S8x1024.size (halfScan A6 A7 ca cr ci ha hr hi X S).2.2

/-- The product of one half's states with its output matrix. -/
abbrev halfOut (A6 A7 : FVec F S8x2048 .f32) (C : FVec F S2048x256 .bf16) (ca cr ci : Nat) (ha : ca + 1024 ≤ 2048) (hr : cr + 1024 ≤ 4096)
    (hi : ci + 1024 ≤ 4096) (hb : cr + 2048 ≤ 4096) (X : FVec F S1024x4096 .f32) (S : FVec F S8x4096 .f32) : FVec F S1024x256 .f32 :=
  matmul dot_S1024x2048_S2048x256_S1024x256_1_0_0_1_n_n none
    (truncf .bf16 (window (s := S1024x4096) (halfScan A6 A7 ca cr ci ha hr hi X S).1 ![0, cr] S1024x2048.size (inbB cr hb) : FVec F S1024x2048 .f32) bitsLt_bf16_f32)
    C (constant S1024x256 .f32 0x00000000#32)

/-- A load of a whole array reads it. -/
theorem window_whole {α : Type} {s : Shape} (X : s.Idx → α) (off : Fin s.rank → ℕ) (inb : ∀ a, off a + s.size a ≤ s.size a) :
    window X off s.size inb = X := by
  funext y
  exact congrArg X (funext fun a => Fin.ext (by
    show off a + 1 * (y a).val = (y a).val
    have := inb a; omega))

/-- A store over a whole array leaves the stored array. -/
theorem put_whole {α : Type} {s : Shape} (X : s.Idx → α) (off : Fin s.rank → ℕ) (h : ∀ a, off a = 0) (w : s.Idx → α) :
    put X off s.size w = w := by
  funext y
  unfold put
  rw [dif_pos (fun a => by have := h a; have := (y a).isLt; omega)]
  exact congrArg w (funext fun a => Fin.ext (by
    show (y a).val - off a = (y a).val
    have := h a; omega))

/-- One half's triple. -/
theorem run_half {α : Type} (c : Dev nD) (E : Set ℕ) (arg6 arg7 : Memref sig .tc .vmem S8x2048 .f32) (arg13 : Memref sig .tc .vmem S1024x4096 .f32)
    (arg14 : Memref sig .tc .vmem S8x4096 .f32) (cm : Memref sig .tc .vmem S2048x256 .bf16) (ca cr ci : Nat)
    (ha : ca + 1024 ≤ 2048) (hr : cr + 1024 ≤ 4096) (hi : ci + 1024 ≤ 4096) (hb : cr + 2048 ≤ 4096)
    (k : FVec F S1024x256 .f32 → BProg (F := F) α) (K : α → sProp 𝕄)
    (A6 A7 : FVec F S8x2048 .f32) (C : FVec F S2048x256 .bf16) (X : FVec F S1024x4096 .f32) (S : FVec F S8x4096 .f32) :
    iprop(has c arg6 A6 ∗ has c arg7 A7 ∗ has c cm C ∗ has c arg13 X ∗ has c arg14 S ∗
        (has c arg6 A6 -∗ has c arg7 A7 -∗ has c cm C -∗ has c arg13 (halfScan A6 A7 ca cr ci ha hr hi X S).1 -∗
          has c arg14 (halfState A6 A7 ca cr ci ha hr hi X S) -∗ run c E (k (halfOut A6 A7 C ca cr ci ha hr hi hb X S)) K))
      ⊢ run c E (half arg6 arg7 arg13 arg14 cm ca cr ci ha hr hi hb k) K := by
  unfold half
  iintro ⟨H6, H7, Hc, H13, H14, Hk⟩
  iapply (load c E arg6 _ _ _ _ _ _ K)
  isplitl [H6]; · iexact H6
  iintro H6
  iapply (load c E arg7 _ _ _ _ _ _ K)
  isplitl [H7]; · iexact H7
  iintro H7
  iapply (load c E arg14 _ _ _ _ _ _ K)
  isplitl [H14]; · iexact H14
  iintro H14
  iapply (load c E arg14 _ _ _ _ _ _ K)
  isplitl [H14]; · iexact H14
  iintro H14
  iapply (run_scanN c E arg13 cr ci hr hi _ _ _ K 128 (Nat.le_refl _) _ _ _)
  isplitl [H13]; · iexact H13
  iintro H13
  simp only [shapeCast_id]
  iapply (load c E arg14 _ _ _ _ _ _ K)
  isplitl [H14]; · iexact H14
  iintro H14
  iapply (store c E arg14 _ _ _ _ _ _ _ _ K)
  isplitl [H14]; · iexact H14
  iintro H14
  iapply (load c E arg14 _ _ _ _ _ _ K)
  isplitl [H14]; · iexact H14
  iintro H14
  iapply (store c E arg14 _ _ _ _ _ _ _ _ K)
  isplitl [H14]; · iexact H14
  iintro H14
  iapply (load c E arg13 _ _ _ _ _ _ K)
  isplitl [H13]; · iexact H13
  iintro H13
  iapply (load c E cm _ _ _ _ _ _ K)
  isplitl [Hc]; · iexact Hc
  iintro Hc
  rw [window_whole]
  iapply Hk $$ H6 H7 Hc H13 H14

/-- The input's rows, time first. -/
abbrev inRows (U : FVec F S8x128x512 .f32) : FVec F S1024x512 .f32 :=
  shapeCast S1024x512 (transpose S128x8x512 [1, 0, 2] U transposes_S8x128x512_p1_0_2_S128x8x512) shapeCasts_S128x8x512_S1024x512

/-- The product of the first half of the input's channels with its input matrix. -/
abbrev buLo (U : FVec F S8x128x512 .f32) (B : FVec F S256x2048 .bf16) : FVec F S1024x2048 .f32 :=
  matmul dot_S1024x256_S256x2048_S1024x2048_1_0_0_1_n_n none
    (extractStridedSlice S1024x256 ![0, 0] (truncf .bf16 (inRows U) bitsLt_bf16_f32) slices_S1024x512_o0_0_S1024x256)
    B (constant S1024x2048 .f32 0x00000000#32)
/-- The product of the second half. -/
abbrev buHi (U : FVec F S8x128x512 .f32) (B : FVec F S256x2048 .bf16) : FVec F S1024x2048 .f32 :=
  matmul dot_S1024x256_S256x2048_S1024x2048_1_0_0_1_n_n none
    (extractStridedSlice S1024x256 ![0, 256] (truncf .bf16 (inRows U) bitsLt_bf16_f32) slices_S1024x512_o0_256_S1024x256)
    B (constant S1024x2048 .f32 0x00000000#32)

/-- The scratch array when the scans begin. -/
abbrev buF (U : FVec F S8x128x512 .f32) (B2 B3 : FVec F S256x2048 .bf16) (X : FVec F S1024x4096 .f32) : FVec F S1024x4096 .f32 :=
  put (put X ![0, 0] S1024x2048.size (buLo U B2)) ![0, 2048] S1024x2048.size (buHi U B3)

/-- It doesn't depend on what the scratch array held. -/
theorem buF_indep (U : FVec F S8x128x512 .f32) (B2 B3 : FVec F S256x2048 .bf16) (X X' : FVec F S1024x4096 .f32) :
    buF U B2 B3 X = buF U B2 B3 X' := by
  funext y
  unfold buF put
  by_cases h : ∀ a, (![0, 2048] : Fin 2 → ℕ) a ≤ (y a).val ∧ (y a).val < (![0, 2048] : Fin 2 → ℕ) a + S1024x2048.size a
  · rw [dif_pos h, dif_pos h]
  · rw [dif_neg h, dif_neg h]
    have h' : ∀ a, (![0, 0] : Fin 2 → ℕ) a ≤ (y a).val ∧ (y a).val < (![0, 0] : Fin 2 → ℕ) a + S1024x2048.size a := by
      have h0 : (y 0).val < 1024 := (y 0).isLt
      have h1 : (y 1).val < 4096 := (y 1).isLt
      refine Fin.forall_fin_two.2 ⟨⟨Nat.zero_le _, by show _ < 0 + 1024; omega⟩, Nat.zero_le _, ?_⟩
      show (y 1).val < 0 + 2048
      by_contra hh
      exact h (Fin.forall_fin_two.2 ⟨⟨Nat.zero_le _, by show _ < 0 + 1024; omega⟩, by show 2048 ≤ (y 1).val; omega, by show (y 1).val < 2048 + 2048; omega⟩)
    rw [dif_pos h', dif_pos h']

/-- The triple of what precedes the scans. -/
theorem run_pro {α : Type} (c : Dev nD) (E : Set ℕ) (arg1 : Memref sig .tc .vmem S8x128x512 .f32) (arg2 arg3 : Memref sig .tc .vmem S256x2048 .bf16)
    (arg13 : Memref sig .tc .vmem S1024x4096 .f32) (k : FVec F S1024x512 .f32 → BProg (F := F) α) (K : α → sProp 𝕄)
    (U : FVec F S8x128x512 .f32) (B2 B3 : FVec F S256x2048 .bf16) (X : FVec F S1024x4096 .f32) :
    iprop(has c arg1 U ∗ has c arg2 B2 ∗ has c arg3 B3 ∗ has c arg13 X ∗
        (has c arg1 U -∗ has c arg2 B2 -∗ has c arg3 B3 -∗ has c arg13 (buF U B2 B3 X) -∗ run c E (k (inRows U)) K))
      ⊢ run c E (pro arg1 arg2 arg3 arg13 k) K := by
  unfold pro
  iintro ⟨H1, H2, H3, H13, Hk⟩
  iapply (load c E arg1 _ _ _ _ _ _ K)
  isplitl [H1]; · iexact H1
  iintro H1
  iapply (load c E arg2 _ _ _ _ _ _ K)
  isplitl [H2]; · iexact H2
  iintro H2
  iapply (load c E arg13 _ _ _ _ _ _ K)
  isplitl [H13]; · iexact H13
  iintro H13
  iapply (store c E arg13 _ _ _ _ _ _ _ _ K)
  isplitl [H13]; · iexact H13
  iintro H13
  iapply (load c E arg3 _ _ _ _ _ _ K)
  isplitl [H3]; · iexact H3
  iintro H3
  iapply (load c E arg13 _ _ _ _ _ _ K)
  isplitl [H13]; · iexact H13
  iintro H13
  iapply (store c E arg13 _ _ _ _ _ _ _ _ K)
  isplitl [H13]; · iexact H13
  iintro H13
  rw [window_whole (s := S8x128x512), window_whole (s := S256x2048), window_whole (s := S256x2048)]
  simp only [shapeCast_id]
  iapply Hk $$ H1 H2 H3 H13

end Cert.KernelIdeal.S5

end
-- ==== Proof.S5.DiscBody.lean ====
/- The triple of the `s5_discretise` call's body, its outputs as functions of its inputs. -/
module

public import proofs.«01_k».proof.Proof.S5.Disc
public import proofs.«01_k».proof.Proof.S5.Model

@[expose] public section

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.KernelIdeal.Facts₀ Cert.KernelIdeal.Facts

variable {F : FTy → Type} [FloatOps F]

local notation "𝕄" => MT nD τ sig Unit (Elt F) ℕ (UR sig nD τ) ℕ

/-- Group `g`'s 64 columns of the first 8 of its 16 rows, side by side. -/
def groupCols (v : FVec F S512x64 .f32) : FVec F S8x2048 .f32 := fun y =>
  v fun a => if h : a = 0 then ⟨16 * ((y 1).val / 64) + (y 0).val, by
      subst h; show _ < 512; have h0 : (y 0).val < 8 := (y 0).isLt; have h1 : (y 1).val < 2048 := (y 1).isLt; omega⟩
    else ⟨(y 1).val % 64, by
      have : a = 1 := by fin_cases a <;> simp_all
      subst this; show _ < 64; omega⟩

/-- Two matrices side by side. -/
def besides (a b : FVec F S256x1024 .bf16) : FVec F S256x2048 .bf16 := fun y =>
  if h : (y 1).val < 1024 then a fun k => if hk : k = 0 then ⟨(y 0).val, by subst hk; exact (y 0).isLt⟩ else ⟨(y 1).val, by
      have : k = 1 := by fin_cases k <;> simp_all
      subst this; exact h⟩
  else b fun k => if hk : k = 0 then ⟨(y 0).val, by subst hk; exact (y 0).isLt⟩ else ⟨(y 1).val - 1024, by
      have : k = 1 := by fin_cases k <;> simp_all
      subst this; show _ < 1024; have h1 : (y 1).val < 2048 := (y 1).isLt; omega⟩

/-- Two matrices one above the other. -/
def above (a b : FVec F S1024x256 .bf16) : FVec F S2048x256 .bf16 := fun y =>
  if h : (y 0).val < 1024 then a fun k => if hk : k = 0 then ⟨(y 0).val, by subst hk; exact h⟩ else ⟨(y 1).val, by
      have : k = 1 := by fin_cases k <;> simp_all
      subst this; exact (y 1).isLt⟩
  else b fun k => if hk : k = 0 then ⟨(y 0).val - 1024, by
      subst hk; show _ < 1024; have h1 : (y 0).val < 2048 := (y 0).isLt; omega⟩ else ⟨(y 1).val, by
      have : k = 1 := by fin_cases k <;> simp_all
      subst this; exact (y 1).isLt⟩

/-- The input matrix of 16 groups: real parts beside imaginary parts. -/
def inMat (re im ldt br bi : FVec F S512x64 .f32) (o : Nat) (h : Shape.Slices S512x64 ![o, 0] S256x64) : FVec F S256x2048 .bf16 :=
  besides (inPart (bbarR re im ldt br bi) o h) (inPart (bbarI re im ldt br bi) o h)
/-- The output matrix of 16 groups: real parts above negated imaginary parts. -/
def outMat (c5 c6 : FVec F S2048x16 .f32) (o : Nat) (h : Shape.Slices S2048x16 ![o, 0] S1024x16) : FVec F S2048x256 .bf16 :=
  above (outPart (cRe c5) o h) (outPart (cNegIm c6) o h)

theorem put_besides (X : FVec F S256x2048 .bf16) (a b : FVec F S256x1024 .bf16) :
    put (put X ![0, 0] S256x1024.size a) ![0, 1024] S256x1024.size b = besides a b := by
  funext y
  have h0 : (y 0).val < 256 := (y 0).isLt
  have h1 : (y 1).val < 2048 := (y 1).isLt
  unfold put besides
  by_cases h : (y 1).val < 1024
  · rw [dif_neg (fun hh => by have := (hh 1).1; change 1024 ≤ (y 1).val at this; omega), dif_pos h,
      dif_pos (Fin.forall_fin_two.2 ⟨⟨Nat.zero_le _, by show _ < 0 + 256; omega⟩, Nat.zero_le _, by show _ < 0 + 1024; omega⟩)]
    exact congrArg a (funext fun k => by fin_cases k <;> rfl)
  · rw [dif_pos (Fin.forall_fin_two.2 ⟨⟨Nat.zero_le _, by show _ < 0 + 256; omega⟩, by show 1024 ≤ (y 1).val; omega, by show (y 1).val < 1024 + 1024; omega⟩), dif_neg h]
    exact congrArg b (funext fun k => by fin_cases k <;> rfl)

theorem put_above (X : FVec F S2048x256 .bf16) (a b : FVec F S1024x256 .bf16) :
    put (put X ![0, 0] S1024x256.size a) ![1024, 0] S1024x256.size b = above a b := by
  funext y
  have h0 : (y 1).val < 256 := (y 1).isLt
  have h1 : (y 0).val < 2048 := (y 0).isLt
  unfold put above
  by_cases h : (y 0).val < 1024
  · rw [dif_neg (fun hh => by have := (hh 0).1; change 1024 ≤ (y 0).val at this; omega), dif_pos h,
      dif_pos (Fin.forall_fin_two.2 ⟨⟨Nat.zero_le _, by show _ < 0 + 1024; omega⟩, Nat.zero_le _, by show _ < 0 + 256; omega⟩)]
    exact congrArg a (funext fun k => by fin_cases k <;> rfl)
  · rw [dif_pos (Fin.forall_fin_two.2 ⟨⟨by show 1024 ≤ (y 0).val; omega, by show (y 0).val < 1024 + 1024; omega⟩, Nat.zero_le _, by show _ < 0 + 256; omega⟩), dif_neg h]
    exact congrArg b (funext fun k => by fin_cases k <;> rfl)

/-- `X` with the last `n` groups' columns those of `v`. -/
def groupsF (v : FVec F S512x64 .f32) (n : Nat) (X : FVec F S8x2048 .f32) : FVec F S8x2048 .f32 := fun y =>
  if 64 * (32 - n) ≤ (y 1).val then groupCols v y else X y

/-- One more group's columns. -/
theorem groupsF_put (v : FVec F S512x64 .f32) (n : Nat) (h : n + 1 ≤ 32) (X : FVec F S8x2048 .f32) :
    groupsF v n (put X ![0, 64 * (32 - (n + 1))] S8x64.size (extractStridedSlice S8x64 ![16 * (32 - (n + 1)), 0] v (slicesG n h))) = groupsF v (n + 1) X := by
  funext y
  have h0 : (y 0).val < 8 := (y 0).isLt
  have h1 : (y 1).val < 2048 := (y 1).isLt
  unfold groupsF
  by_cases hn : 64 * (32 - n) ≤ (y 1).val
  · rw [if_pos hn, if_pos (by omega)]
  · rw [if_neg hn]
    unfold put
    by_cases hm : 64 * (32 - (n + 1)) ≤ (y 1).val
    · rw [if_pos hm, dif_pos (Fin.forall_fin_two.2 ⟨⟨Nat.zero_le _, by show _ < 0 + 8; omega⟩, hm, by show (y 1).val < 64 * (32 - (n + 1)) + 64; omega⟩)]
      refine congrArg v (funext fun k => Fin.ext ?_)
      fin_cases k
      · show 16 * (32 - (n + 1)) + ((y 0).val - 0) = 16 * ((y 1).val / 64) + (y 0).val
        omega
      · show 0 + ((y 1).val - 64 * (32 - (n + 1))) = (y 1).val % 64
        omega
    · rw [if_neg hm, dif_neg (fun hh => hm (hh 1).1)]

theorem groupsF_all (v : FVec F S512x64 .f32) (X : FVec F S8x2048 .f32) : groupsF v 32 X = groupCols v := by
  funext y
  unfold groupsF
  rw [if_pos (by omega)]

/-- The triple of the stores of the discretised state matrix. -/
theorem run_groups {α : Type} (c : Dev nD) (E : Set ℕ) (arg7 arg8 : Memref sig .tc .vmem S8x2048 .f32) (ar ai : FVec F S512x64 .f32)
    (k : BProg (F := F) α) (K : α → sProp 𝕄) :
    ∀ (n : Nat) (h : n ≤ 32) (X Y : FVec F S8x2048 .f32),
    iprop(has c arg7 X ∗ has c arg8 Y ∗ (has c arg7 (groupsF ar n X) -∗ has c arg8 (groupsF ai n Y) -∗ run c E k K))
      ⊢ run c E (groupsN arg7 arg8 ar ai n h k) K
  | 0, h, X, Y => by
    unfold groupsN
    rw [show groupsF ar 0 X = X from funext fun y => if_neg (by have h1 : (y 1).val < 2048 := (y 1).isLt; omega),
      show groupsF ai 0 Y = Y from funext fun y => if_neg (by have h1 : (y 1).val < 2048 := (y 1).isLt; omega)]
    iintro ⟨H7, H8, Hk⟩
    iapply Hk $$ H7 H8
  | n + 1, h, X, Y => by
    unfold groupsN
    iintro ⟨H7, H8, Hk⟩
    iapply (load c E arg7 _ _ _ _ _ _ K)
    isplitl [H7]; · iexact H7
    iintro H7
    iapply (store c E arg7 _ _ _ _ _ _ _ _ K)
    isplitl [H7]; · iexact H7
    iintro H7
    iapply (load c E arg8 _ _ _ _ _ _ K)
    isplitl [H8]; · iexact H8
    iintro H8
    iapply (store c E arg8 _ _ _ _ _ _ _ _ K)
    isplitl [H8]; · iexact H8
    iintro H8
    iapply (run_groups c E arg7 arg8 ar ai k K n (Nat.le_of_succ_le h) _ _)
    isplitl [H7]; · iexact H7
    isplitl [H8]; · iexact H8
    iintro H7 H8
    rw [groupsF_put _ n h, groupsF_put _ n h]
    iapply Hk $$ H7 H8

/-- The body's triple. -/
theorem run_disc (c : Dev nD) (E : Set ℕ)
    (arg0 : Memref sig .tc .vmem S512x64 .f32) (harg0 : arg0.IsWhole)
    (arg1 : Memref sig .tc .vmem S512x64 .f32) (harg1 : arg1.IsWhole)
    (arg2 : Memref sig .tc .vmem S512x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S2048x16 .f32) (harg5 : arg5.IsWhole)
    (arg6 : Memref sig .tc .vmem S2048x16 .f32) (harg6 : arg6.IsWhole)
    (arg7 : Memref sig .tc .vmem S8x2048 .f32) (harg7 : arg7.IsWhole)
    (arg8 : Memref sig .tc .vmem S8x2048 .f32) (harg8 : arg8.IsWhole)
    (arg9 : Memref sig .tc .vmem S256x2048 .bf16) (harg9 : arg9.IsWhole)
    (arg10 : Memref sig .tc .vmem S256x2048 .bf16) (harg10 : arg10.IsWhole)
    (arg11 : Memref sig .tc .vmem S2048x256 .bf16) (harg11 : arg11.IsWhole)
    (arg12 : Memref sig .tc .vmem S2048x256 .bf16) (harg12 : arg12.IsWhole)
    (K : PUnit → sProp 𝕄)
    (re : FVec F S512x64 .f32) (im : FVec F S512x64 .f32) (ldt : FVec F S512x64 .f32) (br : FVec F S512x64 .f32) (bi : FVec F S512x64 .f32) (c5 : FVec F S2048x16 .f32) (c6 : FVec F S2048x16 .f32) (Y7 : FVec F S8x2048 .f32) (Y8 : FVec F S8x2048 .f32) (Y9 : FVec F S256x2048 .bf16) (Y10 : FVec F S256x2048 .bf16) (Y11 : FVec F S2048x256 .bf16) (Y12 : FVec F S2048x256 .bf16) :
    iprop(has c arg0 re ∗ has c arg1 im ∗ has c arg2 ldt ∗ has c arg3 br ∗ has c arg4 bi ∗ has c arg5 c5 ∗ has c arg6 c6 ∗ has c arg7 Y7 ∗ has c arg8 Y8 ∗ has c arg9 Y9 ∗ has c arg10 Y10 ∗ has c arg11 Y11 ∗ has c arg12 Y12 ∗
        (has c arg0 (re) -∗ has c arg1 (im) -∗ has c arg2 (ldt) -∗ has c arg3 (br) -∗ has c arg4 (bi) -∗ has c arg5 (c5) -∗ has c arg6 (c6) -∗ has c arg7 (groupCols (abarR re im ldt)) -∗ has c arg8 (groupCols (abarI re im ldt)) -∗ has c arg9 (inMat re im ldt br bi 0 slices_S512x64_o0_0_S256x64) -∗ has c arg10 (inMat re im ldt br bi 256 slices_S512x64_o256_0_S256x64) -∗ has c arg11 (outMat c5 c6 0 slices_S2048x16_o0_0_S1024x16) -∗ has c arg12 (outMat c5 c6 1024 slices_S2048x16_o1024_0_S1024x16) -∗ K ⟨⟩))
      ⊢ run c E (cc0_s5_discretise arg0 harg0 arg1 harg1 arg2 harg2 arg3 harg3 arg4 harg4 arg5 harg5 arg6 harg6 arg7 harg7 arg8 harg8 arg9 harg9 arg10 harg10 arg11 harg11 arg12 harg12) K := by
  rw [disc_eq]
  unfold disc
  iintro ⟨H0, H1, H2, H3, H4, H5, H6, H7, H8, H9, H10, H11, H12, Hk⟩
  iapply (load c E arg0 _ _ _ _ _ _ K)
  isplitl [H0]; · iexact H0
  iintro H0
  iapply (load c E arg1 _ _ _ _ _ _ K)
  isplitl [H1]; · iexact H1
  iintro H1
  iapply (load c E arg2 _ _ _ _ _ _ K)
  isplitl [H2]; · iexact H2
  iintro H2
  iapply (run_groups c E arg7 arg8 _ _ _ K 32 (Nat.le_refl _) Y7 Y8)
  isplitl [H7]; · iexact H7
  isplitl [H8]; · iexact H8
  iintro H7 H8
  iapply (load c E arg3 _ _ _ _ _ _ K)
  isplitl [H3]; · iexact H3
  iintro H3
  iapply (load c E arg4 _ _ _ _ _ _ K)
  isplitl [H4]; · iexact H4
  iintro H4
  iapply (load c E arg5 _ _ _ _ _ _ K)
  isplitl [H5]; · iexact H5
  iintro H5
  iapply (load c E arg6 _ _ _ _ _ _ K)
  isplitl [H6]; · iexact H6
  iintro H6
  iapply (load c E arg9 _ _ _ _ _ _ K)
  isplitl [H9]; · iexact H9
  iintro H9
  iapply (store c E arg9 _ _ _ _ _ _ _ _ K)
  isplitl [H9]; · iexact H9
  iintro H9
  iapply (load c E arg9 _ _ _ _ _ _ K)
  isplitl [H9]; · iexact H9
  iintro H9
  iapply (store c E arg9 _ _ _ _ _ _ _ _ K)
  isplitl [H9]; · iexact H9
  iintro H9
  iapply (load c E arg11 _ _ _ _ _ _ K)
  isplitl [H11]; · iexact H11
  iintro H11
  iapply (store c E arg11 _ _ _ _ _ _ _ _ K)
  isplitl [H11]; · iexact H11
  iintro H11
  iapply (load c E arg11 _ _ _ _ _ _ K)
  isplitl [H11]; · iexact H11
  iintro H11
  iapply (store c E arg11 _ _ _ _ _ _ _ _ K)
  isplitl [H11]; · iexact H11
  iintro H11
  iapply (load c E arg10 _ _ _ _ _ _ K)
  isplitl [H10]; · iexact H10
  iintro H10
  iapply (store c E arg10 _ _ _ _ _ _ _ _ K)
  isplitl [H10]; · iexact H10
  iintro H10
  iapply (load c E arg10 _ _ _ _ _ _ K)
  isplitl [H10]; · iexact H10
  iintro H10
  iapply (store c E arg10 _ _ _ _ _ _ _ _ K)
  isplitl [H10]; · iexact H10
  iintro H10
  iapply (load c E arg12 _ _ _ _ _ _ K)
  isplitl [H12]; · iexact H12
  iintro H12
  iapply (store c E arg12 _ _ _ _ _ _ _ _ K)
  isplitl [H12]; · iexact H12
  iintro H12
  iapply (load c E arg12 _ _ _ _ _ _ K)
  isplitl [H12]; · iexact H12
  iintro H12
  iapply (store c E arg12 _ _ _ _ _ _ _ _ K)
  isplitl [H12]; · iexact H12
  iintro H12
  rw [put_besides, put_besides, put_above, put_above, groupsF_all, groupsF_all]
  rw [window_whole (s := S512x64), window_whole (s := S512x64), window_whole (s := S512x64), window_whole (s := S512x64), window_whole (s := S512x64),
    window_whole (s := S2048x16), window_whole (s := S2048x16)]
  unfold run
  rw [wp_ret]
  imodintro
  unfold inMat outMat
  iapply Hk $$ H0 H1 H2 H3 H4 H5 H6 H7 H8 H9 H10 H11 H12

end Cert.KernelIdeal.S5

end
-- ==== Proof.S5.Region0.lean ====
/- The region of the `s5_discretise` call: its proof data from the arrays it finds, and its body obligation. -/
module

public import proofs.«01_k».proof.Proof.S5.DiscBody
public import proofs.«01_k».proof.Proof.Gen.KernelIdeal.Launch
public import proofs.«01_k».proof.Proof.Gen.KernelIdeal.Points

@[expose] public section

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.VecWindow (window put)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => groupCols (abarR (iblk0 V c 0 t) (iblk0 V c 1 t) (iblk0 V c 2 t))
    | ⟨8, _⟩ => groupCols (abarI (iblk0 V c 0 t) (iblk0 V c 1 t) (iblk0 V c 2 t))
    | ⟨9, _⟩ => inMat (iblk0 V c 0 t) (iblk0 V c 1 t) (iblk0 V c 2 t) (iblk0 V c 3 t) (iblk0 V c 4 t) 0 slices_S512x64_o0_0_S256x64
    | ⟨10, _⟩ => inMat (iblk0 V c 0 t) (iblk0 V c 1 t) (iblk0 V c 2 t) (iblk0 V c 3 t) (iblk0 V c 4 t) 256 slices_S512x64_o256_0_S256x64
    | ⟨11, _⟩ => outMat (iblk0 V c 5 t) (iblk0 V c 6 t) 0 slices_S2048x16_o0_0_S1024x16
    | ⟨12, _⟩ => outMat (iblk0 V c 5 t) (iblk0 V c 6 t) 1024 slices_S2048x16_o1024_0_S1024x16
  Φ _ := Pipeline.scopedRest spec0 c
  q _ := fullShare
  owed _ := 0

theorem A0_eq (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = groupCols (abarR (iblk0 V c 0 t) (iblk0 V c 1 t) (iblk0 V c 2 t)) := by dsimp only [dat0]
theorem after0_8 (c : Dev nD) (t : Fin cfg0.N) : (dat0 V c).after 8 t = groupCols (abarI (iblk0 V c 0 t) (iblk0 V c 1 t) (iblk0 V c 2 t)) := by dsimp only [dat0]
theorem after0_9 (c : Dev nD) (t : Fin cfg0.N) : (dat0 V c).after 9 t = inMat (iblk0 V c 0 t) (iblk0 V c 1 t) (iblk0 V c 2 t) (iblk0 V c 3 t) (iblk0 V c 4 t) 0 slices_S512x64_o0_0_S256x64 := by dsimp only [dat0]
theorem after0_10 (c : Dev nD) (t : Fin cfg0.N) : (dat0 V c).after 10 t = inMat (iblk0 V c 0 t) (iblk0 V c 1 t) (iblk0 V c 2 t) (iblk0 V c 3 t) (iblk0 V c 4 t) 256 slices_S512x64_o256_0_S256x64 := by dsimp only [dat0]
theorem after0_11 (c : Dev nD) (t : Fin cfg0.N) : (dat0 V c).after 11 t = outMat (iblk0 V c 5 t) (iblk0 V c 6 t) 0 slices_S2048x16_o0_0_S1024x16 := by dsimp only [dat0]
theorem after0_12 (c : Dev nD) (t : Fin cfg0.N) : (dat0 V c).after 12 t = outMat (iblk0 V c 5 t) (iblk0 V c 6 t) 1024 slices_S2048x16_o1024_0_S1024x16 := by dsimp only [dat0]

/-- Each input window's buffer holds its block when the body runs. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A0_eq]; try rfl) t d).trans
    (by unfold Dat.fetched Dat.blockOf iblk0; rw [A0_eq]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A0_eq]; try rfl) t d).trans
    (by unfold Dat.fetched Dat.blockOf iblk0; rw [A0_eq]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A0_eq]; try rfl) t d).trans
    (by unfold Dat.fetched Dat.blockOf iblk0; rw [A0_eq]; try rfl)

/-- What the body is called with, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))
/-- and what it must leave. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at its point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_disc c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro H0 H1 H2 H3 H4 H5 H6 H7 H8 H9 H10 H11 H12
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row0 (t : Fin cfg0.N) :
    defs₀ (F := F) .tc cfg0.body (cfg0.bodyArgs t (cfg0.slots t)) = bodyAt0 t := by
  unfold defs₀; rw [Defs.onTc_tc]

/-- The region's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.S5

end
-- ==== Proof.S5.Body.lean ====
/- The triple of the `s5_branch` call's body: what one grid point leaves in the result's block and in the kept state. -/
module

public import proofs.«01_k».proof.Proof.S5.Model
public import proofs.«01_k».proof.Proof.S5.Equal

@[expose] public section

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.KernelIdeal.Facts₀ Cert.KernelIdeal.Facts

variable {F : FTy → Type} [FloatOps F]

local notation "𝕄" => MT nD τ sig Unit (Elt F) ℕ (UR sig nD τ) ℕ

/-- The state array before the first grid point. -/
abbrev zeroState : FVec F S8x4096 .f32 := broadcast S8x4096 (Scalar.ofBits .f32 0x00000000#32)

section Point
variable (U : FVec F S8x128x512 .f32) (B2 B3 : FVec F S256x2048 .bf16) (C4 C5 : FVec F S2048x256 .bf16) (A6 A7 : FVec F S8x2048 .f32)
  (D8 : FVec F S1x512 .f32) (G9 : FVec F S512x512 .bf16) (G10 : FVec F S1x512 .f32) (P11 : FVec F S512x1024 .bf16) (S : FVec F S8x4096 .f32)

/-- The scratch array when the first half's scan begins. -/
def scr0 : FVec F S1024x4096 .f32 := buF U B2 B3 fun _ => FloatOps.ofBits .f32 0#32
/-- The scratch array after the first half's scan. -/
def scr1 : FVec F S1024x4096 .f32 := (halfScan A6 A7 0 0 1024 (by decide) (by decide) (by decide) (scr0 U B2 B3) S).1
/-- The state after the first half's scan. -/
def state1 : FVec F S8x4096 .f32 := halfState A6 A7 0 0 1024 (by decide) (by decide) (by decide) (scr0 U B2 B3) S
/-- The scratch array after both scans. -/
def pointScr : FVec F S1024x4096 .f32 :=
  (halfScan A6 A7 1024 2048 3072 (by decide) (by decide) (by decide) (scr1 U B2 B3 A6 A7 S) (state1 U B2 B3 A6 A7 S)).1
/-- The state after both scans. -/
def pointState : FVec F S8x4096 .f32 :=
  halfState A6 A7 1024 2048 3072 (by decide) (by decide) (by decide) (scr1 U B2 B3 A6 A7 S) (state1 U B2 B3 A6 A7 S)
/-- The first half's product with its output matrix. -/
def yLo : FVec F S1024x256 .f32 := halfOut A6 A7 C4 0 0 1024 (by decide) (by decide) (by decide) (by decide) (scr0 U B2 B3) S
/-- The second half's product with its output matrix. -/
def yHi : FVec F S1024x256 .f32 :=
  halfOut A6 A7 C5 1024 2048 3072 (by decide) (by decide) (by decide) (by decide) (scr1 U B2 B3 A6 A7 S) (state1 U B2 B3 A6 A7 S)
/-- The result's block. -/
def pointOut : FVec F S8x128x1024 .bf16 :=
  outOf (geluOf (inRows U) (yLo U B2 B3 C4 A6 A7 S) (yHi U B2 B3 C5 A6 A7 S) D8) G9 G10 P11
end Point

/-- The zeroing's triple. -/
theorem run_zero {α : Type} (c : Dev nD) (E : Set ℕ) (i : grid1.Coords) (arg14 : Memref sig .tc .vmem S8x4096 .f32)
    (k : BProg (F := F) α) (K : α → sProp 𝕄) (S : FVec F S8x4096 .f32) :
    iprop(has c arg14 S ∗ (has c arg14 (if (i 0).val = 0 then zeroState else S) -∗ run c E k K))
      ⊢ run c E (zeroThen i arg14 k) K := by
  have hi : (Scalar.cmpi .ne ((Scalar.extui (Scalar.cmpi .eq (BitVec.ofNat 32 (i 0).val) 0#32) : BitVec 32)) 0#32 = 1#1) ↔ (i 0).val = 0 := by
    have : ∀ n : Fin 16, (Scalar.cmpi .ne ((Scalar.extui (Scalar.cmpi .eq (BitVec.ofNat 32 n.val) 0#32) : BitVec 32)) 0#32 = 1#1) ↔ n.val = 0 := by decide
    exact this (i 0)
  unfold zeroThen
  by_cases h : (i 0).val = 0
  · rw [dif_pos (hi.2 h), if_pos h]
    iintro ⟨H14, Hk⟩
    iapply (load c E arg14 _ _ _ _ _ _ K)
    isplitl [H14]; · iexact H14
    iintro H14
    iapply (store c E arg14 _ _ _ _ _ _ _ _ K)
    isplitl [H14]; · iexact H14
    iintro H14
    rw [put_whole _ _ (fun a => by fin_cases a <;> rfl)]
    simp only [shapeCast_id]
    iapply Hk
    iexact H14
  · rw [dif_neg (fun e => h (hi.1 e)), if_neg h]
    iintro ⟨H14, Hk⟩
    iapply Hk
    iexact H14

/-- The triple of what follows the scans. -/
theorem run_tail (c : Dev nD) (E : Set ℕ) (arg8 : Memref sig .tc .vmem S1x512 .f32) (arg9 : Memref sig .tc .vmem S512x512 .bf16)
    (arg10 : Memref sig .tc .vmem S1x512 .f32) (arg11 : Memref sig .tc .vmem S512x1024 .bf16) (arg12 : Memref sig .tc .vmem S8x128x1024 .bf16)
    (harg12 : arg12.IsWhole) (v5 : FVec F S1024x512 .f32) (lo hi : FVec F S1024x256 .f32) (K : PUnit → sProp 𝕄)
    (D8 : FVec F S1x512 .f32) (G9 : FVec F S512x512 .bf16) (G10 : FVec F S1x512 .f32) (P11 : FVec F S512x1024 .bf16) (O : FVec F S8x128x1024 .bf16) :
    iprop(has c arg8 D8 ∗ has c arg9 G9 ∗ has c arg10 G10 ∗ has c arg11 P11 ∗ has c arg12 O ∗
        (has c arg8 D8 -∗ has c arg9 G9 -∗ has c arg10 G10 -∗ has c arg11 P11 -∗
          has c arg12 (outOf (geluOf v5 lo hi D8) G9 G10 P11) -∗ K ⟨⟩))
      ⊢ run c E (tail arg8 arg9 arg10 arg11 arg12 harg12 v5 lo hi) K := by
  unfold tail
  iintro ⟨H8, H9, H10, H11, H12, Hk⟩
  iapply (load c E arg8 _ _ _ _ _ _ K)
  isplitl [H8]; · iexact H8
  iintro H8
  iapply (load c E arg9 _ _ _ _ _ _ K)
  isplitl [H9]; · iexact H9
  iintro H9
  iapply (load c E arg10 _ _ _ _ _ _ K)
  isplitl [H10]; · iexact H10
  iintro H10
  iapply (load c E arg11 _ _ _ _ _ _ K)
  isplitl [H11]; · iexact H11
  iintro H11
  iapply (load c E arg12 _ _ _ _ _ _ K)
  isplitl [H12]; · iexact H12
  iintro H12
  iapply (store c E arg12 _ _ _ _ _ _ _ _ K)
  isplitl [H12]; · iexact H12
  iintro H12
  rw [put_whole _ _ (fun a => by fin_cases a <;> rfl), window_whole (s := S1x512), window_whole (s := S512x512), window_whole (s := S1x512),
    window_whole (s := S512x1024)]
  unfold run
  rw [wp_ret]
  imodintro
  iapply Hk $$ H8 H9 H10 H11 H12

/-- The body's triple. -/
theorem run_body (c : Dev nD) (E : Set ℕ) (i : grid1.Coords)
    (arg1 : Memref sig .tc .vmem S8x128x512 .f32) (harg1 : arg1.IsWhole)
    (arg2 : Memref sig .tc .vmem S256x2048 .bf16) (harg2 : arg2.IsWhole)
    (arg3 : Memref sig .tc .vmem S256x2048 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S1x512 .f32) (harg8 : arg8.IsWhole)
    (arg9 : Memref sig .tc .vmem S512x512 .bf16) (harg9 : arg9.IsWhole)
    (arg10 : Memref sig .tc .vmem S1x512 .f32) (harg10 : arg10.IsWhole)
    (arg11 : Memref sig .tc .vmem S512x1024 .bf16) (harg11 : arg11.IsWhole)
    (arg12 : Memref sig .tc .vmem S8x128x1024 .bf16) (harg12 : arg12.IsWhole)
    (arg13 : Memref sig .tc .vmem S1024x4096 .f32) (harg13 : arg13.IsWhole)
    (arg14 : Memref sig .tc .vmem S8x4096 .f32) (harg14 : arg14.IsWhole)
    (K : PUnit → sProp 𝕄)
    (U : FVec F S8x128x512 .f32) (B2 : FVec F S256x2048 .bf16) (B3 : FVec F S256x2048 .bf16) (C4 : FVec F S2048x256 .bf16) (C5 : FVec F S2048x256 .bf16) (A6 : FVec F S8x2048 .f32) (A7 : FVec F S8x2048 .f32) (D8 : FVec F S1x512 .f32) (G9 : FVec F S512x512 .bf16) (G10 : FVec F S1x512 .f32) (P11 : FVec F S512x1024 .bf16) (O : FVec F S8x128x1024 .bf16) (X : FVec F S1024x4096 .f32) (S : FVec F S8x4096 .f32)
    (S0 : FVec F S8x4096 .f32) (hS : (if (i 0).val = 0 then zeroState else S) = S0) :
    iprop(has c arg1 U ∗ has c arg2 B2 ∗ has c arg3 B3 ∗ has c arg4 C4 ∗ has c arg5 C5 ∗ has c arg6 A6 ∗ has c arg7 A7 ∗ has c arg8 D8 ∗ has c arg9 G9 ∗ has c arg10 G10 ∗ has c arg11 P11 ∗ has c arg12 O ∗ has c arg13 X ∗ has c arg14 S ∗
        (has c arg1 U -∗ has c arg2 B2 -∗ has c arg3 B3 -∗ has c arg4 C4 -∗ has c arg5 C5 -∗ has c arg6 A6 -∗ has c arg7 A7 -∗ has c arg8 D8 -∗ has c arg9 G9 -∗ has c arg10 G10 -∗ has c arg11 P11 -∗ has c arg12 (pointOut U B2 B3 C4 C5 A6 A7 D8 G9 G10 P11 S0) -∗ has c arg13 (pointScr U B2 B3 A6 A7 S0) -∗ has c arg14 (pointState U B2 B3 A6 A7 S0) -∗ K ⟨⟩))
      ⊢ run c E (cc1_s5_branch i arg1 harg1 arg2 harg2 arg3 harg3 arg4 harg4 arg5 harg5 arg6 harg6 arg7 harg7 arg8 harg8 arg9 harg9 arg10 harg10 arg11 harg11 arg12 harg12 arg13 harg13 arg14 harg14) K := by
  rw [body_eq]
  unfold body
  iintro ⟨H1, H2, H3, H4, H5, H6, H7, H8, H9, H10, H11, H12, H13, H14, Hk⟩
  iapply (run_zero c E i arg14 _ K S)
  isplitl [H14]; · iexact H14
  iintro H14
  rw [hS]
  iapply (run_pro c E arg1 arg2 arg3 arg13 _ K U B2 B3 X)
  isplitl [H1]; · iexact H1
  isplitl [H2]; · iexact H2
  isplitl [H3]; · iexact H3
  isplitl [H13]; · iexact H13
  iintro H1 H2 H3 H13
  rw [buF_indep U B2 B3 X fun _ => FloatOps.ofBits .f32 0#32]
  iapply (run_half c E arg6 arg7 arg13 arg14 arg4 0 0 1024 _ _ _ _ _ K A6 A7 C4 _ S0)
  isplitl [H6]; · iexact H6
  isplitl [H7]; · iexact H7
  isplitl [H4]; · iexact H4
  isplitl [H13]; · iexact H13
  isplitl [H14]; · iexact H14
  iintro H6 H7 H4 H13 H14
  iapply (run_half c E arg6 arg7 arg13 arg14 arg5 1024 2048 3072 _ _ _ _ _ K A6 A7 C5 _ _)
  isplitl [H6]; · iexact H6
  isplitl [H7]; · iexact H7
  isplitl [H5]; · iexact H5
  isplitl [H13]; · iexact H13
  isplitl [H14]; · iexact H14
  iintro H6 H7 H5 H13 H14
  iapply (run_tail c E arg8 arg9 arg10 arg11 arg12 harg12 _ _ _ K D8 G9 G10 P11 O)
  isplitl [H8]; · iexact H8
  isplitl [H9]; · iexact H9
  isplitl [H10]; · iexact H10
  isplitl [H11]; · iexact H11
  isplitl [H12]; · iexact H12
  iintro H8 H9 H10 H11 H12
  unfold pointOut pointScr pointState yLo yHi scr1 state1 scr0
  iapply Hk $$ H1 H2 H3 H4 H5 H6 H7 H8 H9 H10 H11 H12 H13 H14

end Cert.KernelIdeal.S5

end
-- ==== Proof.S5.Region1.lean ====
/- The region of the `s5_branch` call: its proof data from the arrays it finds, the state kept from point to point in its invariant,
   and its body obligation. -/
module

public import proofs.«01_k».proof.Proof.S5.Body
public import proofs.«01_k».proof.Proof.Gen.KernelIdeal.Launch
public import proofs.«01_k».proof.Proof.Gen.KernelIdeal.Points

@[expose] public section

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.VecWindow (window put)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The state kept before point `n`. -/
def stateAt (c : Dev nD) : ℕ → FVec F S8x4096 .f32
  | 0 => zeroState
  | n + 1 => if h : n < cfg1.N then pointState (iblk1 V c 0 ⟨n, h⟩) (iblk1 V c 1 ⟨n, h⟩) (iblk1 V c 2 ⟨n, h⟩) (iblk1 V c 5 ⟨n, h⟩) (iblk1 V c 6 ⟨n, h⟩) (stateAt c n) else zeroState

/-- The buffers the region doesn't stage and its body doesn't touch. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f))

/-- The invariant: the scratch array at anything, the kept state at its value but before the first point. -/
def Φ1 (c : Dev nD) (n : ℕ) : sProp 𝕄 :=
  iprop(others c ∗ (∃ X, has c (Memref.whole cc1_scratch0) X) ∗ ∃ S, has c (Memref.whole cc1_scratch1) S ∗ ⌜n ≠ 0 → S = stateAt V c n⌝)

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => pointOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (stateAt V c t.val)
  Φ t := Φ1 V c t.val
  q _ := fullShare
  owed _ := 0

theorem A1_eq (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = pointOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (stateAt V c t.val) := by dsimp only [dat1]

/-- Each input window's buffer holds its block when the body runs. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A1_eq]; try rfl) t d).trans
    (by unfold Dat.fetched Dat.blockOf iblk1; rw [A1_eq]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A1_eq]; try rfl) t d).trans
    (by unfold Dat.fetched Dat.blockOf iblk1; rw [A1_eq]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A1_eq]; try rfl) t d).trans
    (by unfold Dat.fetched Dat.blockOf iblk1; rw [A1_eq]; try rfl)

/-- What the body is called with, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))
/-- and what it must leave. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- A point's coordinate is its number. -/
theorem coord_val : ∀ t : Fin cfg1.N, (grid1.coords t 0).val = t.val := by decide

/-- The body at a point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = Φ1 V c (t.val + 1) from rfl, show (dat1 V c).Φ t.castSucc = Φ1 V c t.val from rfl,
    show (dat1 V c).owesAt () t.succ = (dat1 V c).owesAt () t.castSucc from rfl,
    after1_0, after1_1, after1_2, after1_3, after1_4, after1_5, after1_6, after1_7, after1_8, after1_9, after1_10, after1_11]
  unfold Φ1
  iintro ⟨⟨HΦ, ⟨%X, HX⟩, %S, HS, %hS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hS0 : (if (grid1.coords t 0).val = 0 then zeroState else S) = stateAt V c t.val := by
    rw [coord_val]
    by_cases h : t.val = 0
    · rw [if_pos h, h]; rfl
    · rw [if_neg h, hS h]
  have hS1 : stateAt V c (t.val + 1) = pointState (iblk1 V c 0 t) (iblk1 V c 1 t) (iblk1 V c 2 t) (iblk1 V c 5 t) (iblk1 V c 6 t) (stateAt V c t.val) := by
    conv_lhs => unfold stateAt
    rw [dif_pos t.isLt]
  iapply (run_body c Set.univ (grid1.coords t) _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _ X S _ hS0)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HX]; · iexact HX
  isplitl [HS]; · iexact HS
  iintro H0 H1 H2 H3 H4 H5 H6 H7 H8 H9 H10 H11 HX HS
  isplitl [HΦ HX HS]
  · isplitl [HΦ]; · iexact HΦ
    isplitl [HX]; · iexists _; iexact HX
    iexists _
    isplitl [HS]; · iexact HS
    ipureintro
    exact fun _ => hS1.symm
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row1 (t : Fin cfg1.N) :
    defs₀ (F := F) .tc cfg1.body (cfg1.bodyArgs t (cfg1.slots t)) = bodyAt1 t := by
  unfold defs₀; rw [Defs.onTc_tc]

/-- The region's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The invariant holds before the first point, -/
theorem Φ1_first (c : Dev nD) : (Pipeline.scopedRest spec1 c : sProp 𝕄) ⊢ Φ1 V c 0 := by
  rw [scopedRest1_eq]
  unfold Φ1 others
  iintro ⟨H0, H1, H2, H3, H4, H5, H6, H7, H8, H9, H10, H11, H12, ⟨%X, HX⟩, %S, HS⟩
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HX]
  · iexists X; unfold has; rw [owns_whole]; iexact HX
  iexists S
  isplitl [HS]
  · unfold has; rw [owns_whole]; iexact HS
  ipureintro
  exact fun h => absurd rfl h
/-- and gives the buffers back at the end. -/
theorem Φ1_last (c : Dev nD) (n : ℕ) : Φ1 V c n ⊢ (Pipeline.scopedRest spec1 c : sProp 𝕄) := by
  rw [scopedRest1_eq]
  unfold Φ1 others has
  iintro ⟨⟨H0, H1, H2, H3, H4, H5, H6, H7, H8, H9, H10, H11, H12⟩, ⟨%X, HX⟩, %S, HS, -⟩
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HX]; · iexists X; iexact HX
  iexists S; iexact HS

end Cert.KernelIdeal.S5

end
-- ==== Proof.S5.Run.lean ====
/- The launch: `s5_discretise`'s region, then `s5_branch`'s, between the host operations, and what every final memory holds. -/
module

public import proofs.«01_k».proof.Proof.S5.Region0
public import proofs.«01_k».proof.Proof.S5.Region1
public import proofs.«01_k».proof.Proof.Gen.KernelIdeal.Regions
public import Idealize.ShloMosaic.Lib.Pipeline.FrameTail

@[expose] public section

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.VecWindow (window put)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (ρ : Dev nD → PrngReg)

/-- The arrays as `s5_discretise`'s region finds them. -/
abbrev E0 (c : Dev nD) (b : Ref sig .tc) : Buf (Elt F) ((c : Thread nD τ).loc b) := V1 m c b
/-- What `s5_discretise`'s region leaves. -/
def outs0 : Outs (F := F) := fun _ r c => Pipeline.afterRegion (dat0 (E0 m) c) (V1 m c) (Proc.devRef .tc r)
/-- The arrays as `s5_branch`'s region finds them. -/
abbrev E1 (c : Dev nD) (b : Ref sig .tc) : Buf (Elt F) ((c : Thread nD τ).loc b) := V3 m (outs0 m) c b
/-- What both regions leave. -/
def left : Outs (F := F) := fun n r c =>
  if n = 2 then outs0 m n r c else Pipeline.afterRegion (dat1 (E1 m) c) (V3 m (outs0 m) c) (Proc.devRef .tc r)

theorem V3_left (c : Dev nD) : V3 m (left m) c = V3 m (outs0 m) c := rfl

/-- The regions' proof data. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev LL : GSem nD τ sig → Finset Unit := fun _ => ∅
abbrev lv : GSem nD τ sig → Unit → ℕ := fun _ _ => 0

/-- What rides beside the buffers: the core owes nothing. -/
abbrev Rst (c : Dev nD) : sProp 𝕄 := iprop(∃ W, owes (c : Thread nD τ) (0 : CellTallies nD τ sig Unit) W)

set_option backward.isDefEq.respectTransparency.types false in
/-- `s5_discretise`'s region, from the unscoped buffers at `V` to the same at `Vp`. -/
def reg0 (Vp : (c : Dev nD) → (b : Ref sig .tc) → Buf (Elt F) ((c : Thread nD τ).loc b))
    (hF : ∀ c w, (dat0 (E0 m) c).arrAt w cfg0.N = Vp c (Pipeline.arrRef spec0 w))
    (hrest : ∀ c (b : Ref sig .tc), b ∉ Finset.univ.image (Pipeline.arrRef spec0) → Vp c b = E0 m c b) :
    RegionSeg (pcfgs (F := F)) adm (pdats m) () defs₀ Variants.none LL lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ LL lv 0 fun _ _ => rfl
  pre c := iprop(unscopedBufs c (E0 m c) ∗ Rst c)
  post c := iprop(unscopedBufs c (Vp c) ∗ Rst c)
  X _ := BI.emp
  Y _ := BI.emp
  Z c := iprop(Pipeline.unscopedRest (Ix := Unit) (Name := ℕ) (U := UR sig nD τ) (Lvl := ℕ) spec0 c (E0 m c))
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (E0 m c) (Vp c) ((pdats m 0 c).arrAt · cfg0.N) (hF c) (hrest c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- `s5_branch`'s region, from the unscoped buffers at `V` to the same at `Vp`. -/
def reg1 (Vp : (c : Dev nD) → (b : Ref sig .tc) → Buf (Elt F) ((c : Thread nD τ).loc b))
    (hF : ∀ c w, (dat1 (E1 m) c).arrAt w cfg1.N = Vp c (Pipeline.arrRef spec1 w))
    (hrest : ∀ c (b : Ref sig .tc), b ∉ Finset.univ.image (Pipeline.arrRef spec1) → Vp c b = E1 m c b) :
    RegionSeg (pcfgs (F := F)) adm (pdats m) () defs₀ Variants.none LL lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ LL lv 1 fun _ _ => rfl
  pre c := iprop(unscopedBufs c (E1 m c) ∗ Rst c)
  post c := iprop(unscopedBufs c (Vp c) ∗ Rst c)
  X _ := BI.emp
  Y _ := BI.emp
  Z c := iprop(Pipeline.unscopedRest (Ix := Unit) (Name := ℕ) (U := UR sig nD τ) (Lvl := ℕ) spec1 c (E1 m c))
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Φ1 (E1 m) c 0 from rfl]
    iintro ⟨-, -, Hr⟩
    iapply (Φ1_first (E1 m) c) $$ Hr
  hout c := by
    rw [Pipeline.ownSems0_none, show (pdats m 1 c).Φ (Fin.last _) = Φ1 (E1 m) c cfg1.N from rfl]
    iintro Hr
    isplitr; · iempintro
    isplitr; · iempintro
    iapply (Φ1_last (E1 m) c _) $$ Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (E1 m c) (Vp c) ((pdats m 1 c).arrAt · cfg1.N) (hF c) (hrest c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- An array that `s5_discretise` only reads is as it was. -/
theorem inAt0 (c : Dev nD) (w : Fin cfg0.W) (hw : (spec0 w).isOut = false) (hb : Pipeline.arrRef spec0 w ∉ ([main_v23_0, main_v23_1, main_v23_2, main_v23_3, main_v23_4, main_v23_5] : List (Ref sig .tc))) :
    (dat0 (E0 m) c).arrAt w cfg0.N = V2 m (left m) c (Pipeline.arrRef spec0 w) :=
  ((dat0 (E0 m) c).arrAt_in w hw _).trans ((V2_of m (left m) c _ hb).symm)

/-- An array that `s5_discretise` writes is what its region leaves. -/
theorem outAt0 (c : Dev nD) (w : Fin cfg0.W) (h : V2 m (left m) c (Pipeline.arrRef spec0 w) = left m 2 (Pipeline.arrRef spec0 w) c) :
    (dat0 (E0 m) c).arrAt w cfg0.N = V2 m (left m) c (Pipeline.arrRef spec0 w) := by
  rw [h]
  exact (Pipeline.afterRegion_arr (dat0 (E0 m) c) (V1 m c) launch0.win.arr_inj w).symm

/-- `s5_discretise`'s arrays after its region, as the next host operations find them. -/
theorem final0 (c : Dev nD) (w : Fin cfg0.W) : (dat0 (E0 m) c).arrAt w cfg0.N = V2 m (left m) c (Pipeline.arrRef spec0 w) := by
  by_cases hw : (spec0 w).isOut = false
  · exact inAt0 m c w hw (by revert w; decide)
  · refine outAt0 m c w ?_
    have hw' : 7 ≤ w.val := by revert w; decide
    obtain ⟨w, h⟩ := w
    have h' : w < 13 := h
    have : w = 7 ∨ w = 8 ∨ w = 9 ∨ w = 10 ∨ w = 11 ∨ w = 12 := by simp only at hw'; omega
    rcases this with rfl | rfl | rfl | rfl | rfl | rfl
    · show V2 m (left m) c main_v23_0 = left m 2 main_v23_0 c
      simp only [V2, Function.update_self, Function.update_of_ne (StableHlo.devRef_ne_of_ne (show (main_v23_0 : Ref sig .tc) ≠ main_v23_1 by decide)), Function.update_of_ne (StableHlo.devRef_ne_of_ne (show (main_v23_0 : Ref sig .tc) ≠ main_v23_2 by decide)), Function.update_of_ne (StableHlo.devRef_ne_of_ne (show (main_v23_0 : Ref sig .tc) ≠ main_v23_3 by decide)), Function.update_of_ne (StableHlo.devRef_ne_of_ne (show (main_v23_0 : Ref sig .tc) ≠ main_v23_4 by decide)), Function.update_of_ne (StableHlo.devRef_ne_of_ne (show (main_v23_0 : Ref sig .tc) ≠ main_v23_5 by decide))]
    · show V2 m (left m) c main_v23_1 = left m 2 main_v23_1 c
      simp only [V2, Function.update_self, Function.update_of_ne (StableHlo.devRef_ne_of_ne (show (main_v23_1 : Ref sig .tc) ≠ main_v23_2 by decide)), Function.update_of_ne (StableHlo.devRef_ne_of_ne (show (main_v23_1 : Ref sig .tc) ≠ main_v23_3 by decide)), Function.update_of_ne (StableHlo.devRef_ne_of_ne (show (main_v23_1 : Ref sig .tc) ≠ main_v23_4 by decide)), Function.update_of_ne (StableHlo.devRef_ne_of_ne (show (main_v23_1 : Ref sig .tc) ≠ main_v23_5 by decide))]
    · show V2 m (left m) c main_v23_2 = left m 2 main_v23_2 c
      simp only [V2, Function.update_self, Function.update_of_ne (StableHlo.devRef_ne_of_ne (show (main_v23_2 : Ref sig .tc) ≠ main_v23_3 by decide)), Function.update_of_ne (StableHlo.devRef_ne_of_ne (show (main_v23_2 : Ref sig .tc) ≠ main_v23_4 by decide)), Function.update_of_ne (StableHlo.devRef_ne_of_ne (show (main_v23_2 : Ref sig .tc) ≠ main_v23_5 by decide))]
    · show V2 m (left m) c main_v23_3 = left m 2 main_v23_3 c
      simp only [V2, Function.update_self, Function.update_of_ne (StableHlo.devRef_ne_of_ne (show (main_v23_3 : Ref sig .tc) ≠ main_v23_4 by decide)), Function.update_of_ne (StableHlo.devRef_ne_of_ne (show (main_v23_3 : Ref sig .tc) ≠ main_v23_5 by decide))]
    · show V2 m (left m) c main_v23_4 = left m 2 main_v23_4 c
      simp only [V2, Function.update_self, Function.update_of_ne (StableHlo.devRef_ne_of_ne (show (main_v23_4 : Ref sig .tc) ≠ main_v23_5 by decide))]
    · show V2 m (left m) c main_v23_5 = left m 2 main_v23_5 c
      simp only [V2, Function.update_self]

/-- An array that `s5_branch` only reads is as it was. -/
theorem inAt1 (c : Dev nD) (w : Fin cfg1.W) (hw : (spec1 w).isOut = false) (hb : Pipeline.arrRef spec1 w ∉ ([main_v32] : List (Ref sig .tc))) :
    (dat1 (E1 m) c).arrAt w cfg1.N = V4 m (left m) c (Pipeline.arrRef spec1 w) :=
  ((dat1 (E1 m) c).arrAt_in w hw _).trans ((V4_of m (left m) c _ hb).symm)

/-- An array that `s5_branch` writes is what its region leaves. -/
theorem outAt1 (c : Dev nD) (w : Fin cfg1.W) (h : V4 m (left m) c (Pipeline.arrRef spec1 w) = left m 4 (Pipeline.arrRef spec1 w) c) :
    (dat1 (E1 m) c).arrAt w cfg1.N = V4 m (left m) c (Pipeline.arrRef spec1 w) := by
  rw [h]
  exact (Pipeline.afterRegion_arr (dat1 (E1 m) c) (V3 m (left m) c) launch1.win.arr_inj w).symm

/-- `s5_branch`'s arrays after its region, as the end finds them. -/
theorem final1 (c : Dev nD) (w : Fin cfg1.W) : (dat1 (E1 m) c).arrAt w cfg1.N = V4 m (left m) c (Pipeline.arrRef spec1 w) := by
  by_cases hw : (spec1 w).isOut = false
  · exact inAt1 m c w hw (by revert w; decide)
  · refine outAt1 m c w ?_
    have hw' : 11 ≤ w.val := by revert w; decide
    obtain ⟨w, h⟩ := w
    have h' : w < 12 := h
    have : w = 11 := by simp only at hw'; omega
    rcases this with rfl
    all_goals
      repeat (first
        | exact Function.update_self _ _ _
        | refine (Function.update_of_ne (StableHlo.devRef_ne_of_ne (by decide)) _ _).trans ?_)

set_option backward.isDefEq.respectTransparency.types false in
/-- Every execution ends, with the arguments as launched, the result's array at what the last region's write-backs leave there,
    and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.mem ((c.tc : Thread nD τ).loc main_v32) = (dat1 (E1 m) c).arrAt 11 cfg1.N)
      ∧ r.2.sem = fun _ => 0) := by
  have hpre0 : ∀ c : Dev nD, iprop(StableHlo.held (c : Thread nD τ) (Pipeline.ucRefs τ sig) (V1 m c) ∗ Rst c) ⊢ (iprop(unscopedBufs c (E0 m c) ∗ Rst c) : sProp 𝕄) := fun c => by
    rw [← Pipeline.unscopedBufs_held (Ix := Unit) (Name := ℕ) (U := UR sig nD τ) (Lvl := ℕ) c (V1 m c)]
  have hpost0 : ∀ c : Dev nD, (iprop(unscopedBufs c (fun b => V2 m (left m) c b) ∗ Rst c) : sProp 𝕄) ⊢ iprop(StableHlo.held (c : Thread nD τ) (Pipeline.ucRefs τ sig) (V2 m (left m) c) ∗ Rst c) := fun c => by
    rw [← Pipeline.unscopedBufs_held (Ix := Unit) (Name := ℕ) (U := UR sig nD τ) (Lvl := ℕ) c (V2 m (left m) c)]
  have hpre1 : ∀ c : Dev nD, iprop(StableHlo.held (c : Thread nD τ) (Pipeline.ucRefs τ sig) (V3 m (left m) c) ∗ Rst c) ⊢ (iprop(unscopedBufs c (E1 m c) ∗ Rst c) : sProp 𝕄) := fun c => by
    rw [← Pipeline.unscopedBufs_held (Ix := Unit) (Name := ℕ) (U := UR sig nD τ) (Lvl := ℕ) c (V3 m (left m) c), V3_left]
  have hpost1 : ∀ c : Dev nD, (iprop(unscopedBufs c (fun b => V4 m (left m) c b) ∗ Rst c) : sProp 𝕄) ⊢ iprop(StableHlo.held (c : Thread nD τ) (Pipeline.ucRefs τ sig) (V4 m (left m) c) ∗ Rst c) := fun c => by
    rw [← Pipeline.unscopedBufs_held (Ix := Unit) (Name := ℕ) (U := UR sig nD τ) (Lvl := ℕ) c (V4 m (left m) c)]
  let R0 := reg0 m (fun c b => V2 m (left m) c b) (final0 m) (fun c b hb => V2_of m (left m) c b (fun h => hb (by revert h; revert b; decide)))
  let R1 := reg1 m (fun c b => V4 m (left m) c b) (final1 m) (fun c b hb => V4_of m (left m) c b (fun h => hb (by revert h; revert b; decide)))
  refine Pipeline.θ_run_regions_kit_dev_sems (pcfgs (F := F)) adm (pdats m) () cellOf_inj emb₁ defs₀ Variants.none LL lv m ρ main
    (segs m (left m) Variants.none LL lv (fun _ => Rst) () (pdats m) R0 R1)
    (fun c Q => by
      rewrite [main_chain c, Pipeline.Seg.run_eq_chain,
        show (segs m (left m) Variants.none LL lv (fun _ => Rst) () (pdats m) R0 R1 c).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl)
    (fun _ => iprop(emp)) (initOf (Pipeline.cells cfgs cellOf_inj) (Pipeline.launchToks cfgs cellOf_inj))
    (by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V4 m (left m) c))
    (hch := fun c => ⟨.rfl, hpre0 c, hpost0 c, hpre1 c, hpost1 c⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11)) ∧ s.mem ((c.tc : Thread nD τ).loc main_v32) = (dat1 (E1 m) c).arrAt 11 cfg1.N)
    (hfin := fun c s' => ?_) (hQ := fun _ h hz => ⟨h, funext fun g => hz g (.inr (regions_no_unscoped g.2))⟩)
  · refine Pipeline.initEach LL lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · -- the end: each argument's buffer read off the last valuation
    unfold StableHlo.held
    iintro ⟨Hh, HSI⟩
    ihave Hr := (pointsTo_read_all (Pipeline.ucRefs τ sig) (fun b => ((c : Thread nD τ).1, b)) (V4 m (left m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V4_main_arg0 m (left m) c),
        (h (Proc.devRef .tc main_arg1) (Finset.mem_filter.mpr ⟨StableHlo.devRef_mem_tcRefs main_arg1, by decide⟩)).trans (V4_main_arg1 m (left m) c),
        (h (Proc.devRef .tc main_arg2) (Finset.mem_filter.mpr ⟨StableHlo.devRef_mem_tcRefs main_arg2, by decide⟩)).trans (V4_main_arg2 m (left m) c),
        (h (Proc.devRef .tc main_arg3) (Finset.mem_filter.mpr ⟨StableHlo.devRef_mem_tcRefs main_arg3, by decide⟩)).trans (V4_main_arg3 m (left m) c),
        (h (Proc.devRef .tc main_arg4) (Finset.mem_filter.mpr ⟨StableHlo.devRef_mem_tcRefs main_arg4, by decide⟩)).trans (V4_main_arg4 m (left m) c),
        (h (Proc.devRef .tc main_arg5) (Finset.mem_filter.mpr ⟨StableHlo.devRef_mem_tcRefs main_arg5, by decide⟩)).trans (V4_main_arg5 m (left m) c),
        (h (Proc.devRef .tc main_arg6) (Finset.mem_filter.mpr ⟨StableHlo.devRef_mem_tcRefs main_arg6, by decide⟩)).trans (V4_main_arg6 m (left m) c),
        (h (Proc.devRef .tc main_arg7) (Finset.mem_filter.mpr ⟨StableHlo.devRef_mem_tcRefs main_arg7, by decide⟩)).trans (V4_main_arg7 m (left m) c),
        (h (Proc.devRef .tc main_arg8) (Finset.mem_filter.mpr ⟨StableHlo.devRef_mem_tcRefs main_arg8, by decide⟩)).trans (V4_main_arg8 m (left m) c),
        (h (Proc.devRef .tc main_arg9) (Finset.mem_filter.mpr ⟨StableHlo.devRef_mem_tcRefs main_arg9, by decide⟩)).trans (V4_main_arg9 m (left m) c),
        (h (Proc.devRef .tc main_arg10) (Finset.mem_filter.mpr ⟨StableHlo.devRef_mem_tcRefs main_arg10, by decide⟩)).trans (V4_main_arg10 m (left m) c),
        (h (Proc.devRef .tc main_arg11) (Finset.mem_filter.mpr ⟨StableHlo.devRef_mem_tcRefs main_arg11, by decide⟩)).trans (V4_main_arg11 m (left m) c)⟩,
        (h (Proc.devRef .tc main_v32) (Finset.mem_filter.mpr ⟨StableHlo.devRef_mem_tcRefs main_v32, by decide⟩)).trans (final1 m c 11).symm⟩
    · iexact HSI

end Cert.KernelIdeal.S5

end
-- ==== Proof.S5.Same.lean ====
/- The two readings of the S5 program have the same text: at the machine's floats they are one program. -/
module

public import proofs.«01_k».proof.Kernel
public import proofs.«01_k».proof.KernelIdeal
public import Idealize.ShloMosaic.PureOps.BitExact
public import Idealize.ShloMosaic.PureOps.Ideal
public import Idealize.ShloMosaic.PureOps.IdealRules
public import proofs.«01_k».proof.Proof.Gen.Kernel
public import proofs.«01_k».proof.Proof.Gen.KernelIdeal

@[expose] public section

set_option maxRecDepth 100000
set_option maxHeartbeats 0

noncomputable section

open Idealize.ShloMosaic Idealize.ShloMosaic.TcCoe Idealize.SL.Sem

namespace Cert.S5

/-- `s5_branch`'s body, printed twice. -/
theorem branch_same : Cert.Kernel.cc1_s5_branch (F := Bits) = Cert.KernelIdeal.cc1_s5_branch := rfl

/-- The tables of the two calls' bodies. -/
theorem bodies_same : Cert.Kernel.defs₀ (F := Bits) = Cert.KernelIdeal.defs₀ := by
  unfold Cert.Kernel.defs₀ Cert.KernelIdeal.defs₀
  refine congrArg Defs.onTc ?_
  funext l x
  match l, x with
  | 0, (t, s) => rfl
  | 1, (t, s) =>
    exact congrArg (fun k : type_of% (Cert.KernelIdeal.cc1_s5_branch (F := Bits)) => k _ _ _ _ _ _ _ _ _ _ _ _ _ _ _ _ _ _ _ _ _ _ _ _ _ _ _ _ _) branch_same

/-- The call tables. -/
theorem defs_same : Cert.Kernel.defs (F := Bits) = Cert.KernelIdeal.defs := by
  unfold Cert.Kernel.defs Cert.KernelIdeal.defs
  exact congrArg (Pipeline.defs Cert.KernelIdeal.pcfgs) bodies_same

/-- The host programs. -/
theorem main_same : Cert.Kernel.main (F := Bits) = Cert.KernelIdeal.main := rfl

end Cert.S5

end
-- ==== Proof.S5.RefRun.lean ====
/- The S5 reference's run: its arguments stay, its result is what the operations after the scan make of the last states. -/
module

public import proofs.«01_k».proof.Proof.Gen.ReferenceIdeal.Run

@[expose] public section

noncomputable section

namespace Cert.ReferenceIdeal.S5

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo

variable {F : FTy → Type} [FloatOps F] (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6, main_arg7, main_arg8, main_arg9, main_arg10, main_arg11]

/-- What the operations after the scan write. -/
abbrev postW : List (Ref sig .tc) := [main_v56, main_v57, main_v58, main_v59, main_v60, main_v61, main_v62, main_v63, main_v64, main_v65, main_v66, main_v67, main_v68, main_v69, main_v70, main_v71, main_v72, main_v73, main_cst_3, main_v74, main_v75, main_v76, main_cst_4, main_v77, main_v78, main_v79, main_cst_5, main_v80, main_v81, main_cst_6, main_v82, main_v83, main_v84, main_v85, main_v86, main_v87, main_v88, main_v89, main_v90, main_v91, main_v92, main_cst_7, main_v93, main_v94, main_cst_8, main_v95, main_v96, main_v97, main_v98, main_v99, main_v100]
theorem post_writes : (hostOps0_1 : List (HloOp τ sig (Elt F))).Forall fun op => op.writes ⊆ (postW.map (Proc.devRef (τ := τ) .tc)).toFinset :=
  StableHlo.forall_writes_sub_of_map rfl

/-- A trip writes no argument. -/
theorem trip_keeps (X : Valuation τ sig (Elt F)) (r : Ref sig .tc) (hr : r ∈ argRefs) :
    afterL bodyI (after condOps X) (Proc.devRef .tc r) = X (Proc.devRef .tc r) := by
  simp only [bodyI, afterL_cons, afterL_nil]
  rw [after_of_writes_sub while0Ops0_5 _ while0Ops0_5_writes (by revert r; decide +kernel),
    after_of_writes_sub while0Ops0_4 _ while0Ops0_4_writes (by revert r; decide +kernel),
    after_of_writes_sub while0Ops0_3 _ while0Ops0_3_writes (by revert r; decide +kernel),
    after_of_writes_sub while0Ops0_2 _ while0Ops0_2_writes (by revert r; decide +kernel),
    after_of_writes_sub while0Ops0_1 _ while0Ops0_1_writes (by revert r; decide +kernel),
    after_of_writes_sub while0Ops0 _ while0Ops0_writes (by revert r; decide +kernel),
    after_of_writes_sub condOps _ condOps_writes (by revert r; decide +kernel)]

/-- Before the `k`-th trip the arguments are as launched. -/
theorem atK_arg (c : Dev nD) (r : Ref sig .tc) (hr : r ∈ argRefs) : ∀ k, atK m k c (Proc.devRef .tc r) = m ((c.tc : Thread nD τ).loc r)
  | 0 => by
    rw [show atK m 0 c = after hostOps0 (launchContents m c) from rfl,
      after_of_writes_sub hostOps0 _ hostOps0_writes (by revert r; decide +kernel)]
  | k + 1 => by
    rw [show atK m (k + 1) c = afterL bodyI (after condOps (atK m k c)) from rfl, trip_keeps _ r hr, atK_arg c r hr k]

/-- The arguments end as launched. -/
theorem final_arg (c : Dev nD) (r : Ref sig .tc) (hr : r ∈ argRefs) :
    finalContents condOps preI bodyI postI 2048 m c (Proc.devRef .tc r) = m ((c.tc : Thread nD τ).loc r) := by
  rw [show finalContents condOps preI bodyI postI 2048 m c = after hostOps0_1 (after condOps (atK m 2048 c)) from rfl,
    after_of_writes_sub hostOps0_1 _ post_writes (by revert r; decide +kernel),
    after_of_writes_sub condOps _ condOps_writes (by revert r; decide +kernel), atK_arg m c r hr]

/-- Every execution of the reference ends, with the arguments as launched and the result what the last states give. -/
theorem run_main : θ_run (defs (F := F)) (onTc (τ := τ) (main (F := F))) ⟨m, fun _ => 0, ρ⟩ (fun r => ∀ c : Dev nD,
      r.2.mem ((c.tc : Thread nD τ).loc main_v100) = after hostOps0_1 (after condOps (atK m 2048 c)) (Proc.devRef .tc main_v100)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))) :=
  (θ_run (defs (F := F)) _ _).mono (fun r h c => ⟨h c main_v100 (by decide),
    (h c main_arg0 (by decide)).trans (final_arg m c _ (by decide)), (h c main_arg1 (by decide)).trans (final_arg m c _ (by decide)), (h c main_arg2 (by decide)).trans (final_arg m c _ (by decide)), (h c main_arg3 (by decide)).trans (final_arg m c _ (by decide)), (h c main_arg4 (by decide)).trans (final_arg m c _ (by decide)), (h c main_arg5 (by decide)).trans (final_arg m c _ (by decide)), (h c main_arg6 (by decide)).trans (final_arg m c _ (by decide)), (h c main_arg7 (by decide)).trans (final_arg m c _ (by decide)), (h c main_arg8 (by decide)).trans (final_arg m c _ (by decide)), (h c main_arg9 (by decide)).trans (final_arg m c _ (by decide)), (h c main_arg10 (by decide)).trans (final_arg m c _ (by decide)), (h c main_arg11 (by decide)).trans (final_arg m c _ (by decide))⟩) (run_fold m ρ)

end Cert.ReferenceIdeal.S5

end
-- ==== Proof.S5.Claims.lean ====
/- The claims about the S5 branch's two calls. -/
module

public import proofs.«01_k».proof.Defs
public import proofs.«01_k».proof.Proof.S5.Run
public import proofs.«01_k».proof.Proof.S5.Same
public import proofs.«01_k».proof.Proof.S5.RefRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

open Idealize.ShloMosaic Idealize.ShloMosaic.TcCoe Idealize.SL.Sem

namespace Cert.S5

set_option maxHeartbeats 0 in
set_option maxRecDepth 100000 in
/-- The kernel as printed ends from every memory, with its arguments unchanged and every counter at zero. -/
theorem frame_kernel : Cert.quiescent_Kernel := by
  intro m ρ _
  rw [defs_same, main_same]
  exact (θ_run Cert.KernelIdeal.defs _ _).mono (fun _ h => ⟨fun c => (h.1 c).1, h.2⟩) (Cert.KernelIdeal.S5.run_main (F := Bits) m ρ)

/-- The same of its ideal reading. -/
theorem frame_ideal : Cert.quiescent_KernelIdeal := fun m ρ _ =>
  (θ_run Cert.KernelIdeal.defs _ _).mono (fun _ h => ⟨fun c => (h.1 c).1, h.2⟩) (Cert.KernelIdeal.S5.run_main (F := Ideal) m ρ)

/-- The same of the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.S5.run_main (F := Ideal) m ρ)

end Cert.S5

end
-- ==== Proof.S5.Mats.lean ====
/- The entries of the matrices that `s5_discretise` lays out, over the extended reals. -/
module

public import proofs.«01_k».proof.Proof.S5.DiscBody
public import Idealize.ShloMosaic.PureOps.Ideal
public import Idealize.ShloMosaic.PureOps.IdealRules
public import Idealize.ShloMosaic.Lib.Pipeline.ValueKit

@[expose] public section

set_option maxRecDepth 16384

noncomputable section

namespace Cert.KernelIdeal.S5

open Idealize.ShloMosaic Idealize.ShloMosaic.TcCoe Idealize.SL.Sem
open Cert.KernelIdeal.Facts₀ Cert.KernelIdeal.Facts

/-- The remainder that `repeatMat` compares a row's number with. -/
def remWord (x d : BitVec 32) : BitVec 32 :=
  have e : BitVec 32 := Scalar.select (Scalar.cmpi .eq d 0#32) 1#32 d
  have r : BitVec 32 := IntOp.remsi .vector x e
  Scalar.select (IntOp.andi (IntOp.xori (IntOp.cmpi .slt r 0#32) (Scalar.cmpi .slt e 0#32)) (IntOp.cmpi .ne r 0#32)) (IntOp.addi r e) r

/-- A quotient rounded down, of one word. -/
def floorWord (x d : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt d 0#32)) (Scalar.extui (Scalar.cmpi .slt d 0#32))))
    (IntOp.cmpi .ne (IntOp.remsi .vector x d) 0#32)) (IntOp.subi (IntOp.divsi .vector x d) 1#32) (IntOp.divsi .vector x d)

theorem rem64 : ∀ j : Fin 1024, remWord (BitVec.ofNat 32 j) 64#32 = BitVec.ofNat 32 (j % 64) := by decide +kernel
theorem rem16 : ∀ j : Fin 256, remWord (BitVec.ofNat 32 j) 16#32 = BitVec.ofNat 32 (j % 16) := by decide +kernel
theorem quo64 : ∀ j : Fin 1024, floorWord (BitVec.ofNat 32 j) 64#32 = BitVec.ofNat 32 (j / 64) := by decide +kernel
theorem quo16 : ∀ j : Fin 256, floorWord (BitVec.ofNat 32 j) 16#32 = BitVec.ofNat 32 (j / 16) := by decide +kernel

/-- A select on an equality of two small numbers' words. -/
theorem select_nat {α : Type} (a b : Nat) (ha : a < 4096) (hb : b < 4096) (x y : α) :
    Scalar.select (IntOp.cmpi .eq (BitVec.ofNat 32 a) (BitVec.ofNat 32 b)) x y = if a = b then x else y := by
  have h : (BitVec.ofNat 32 a = BitVec.ofNat 32 b) ↔ a = b := by
    constructor
    · intro e
      have := congrArg BitVec.toNat e
      simp only [BitVec.toNat_ofNat] at this
      omega
    · rintro rfl; rfl
  by_cases e : a = b
  · subst e; simp [Scalar.select, IntOp.cmpi]
  · have e' : BitVec.ofNat 32 a ≠ BitVec.ofNat 32 b := fun q => e (h.1 q)
    rw [if_neg e]
    have q : (BitVec.ofNat 32 a == BitVec.ofNat 32 b) = false := by rw [beq_eq_false_iff_ne]; exact e'
    simp [Scalar.select, IntOp.cmpi, q]

theorem repeat64 (k : Fin 64) (j : Fin 1024) : repeatMat (F := Ideal) broadcasts_S64x1024_S64x1024 (iota .tc S64x1024 32 [0] iota_S64x1024_d0_w32) (iota .tc S64x1024 32 [1] iota_S64x1024_d1_w32) 64#32 (ix2 k j)
    = if j.val % 64 = k.val then (1 : EReal) else 0 := by
  pointwise [repeatMat]
  show Scalar.select (IntOp.cmpi .eq (remWord (BitVec.ofNat 32 j) 64#32) (BitVec.ofNat 32 k)) 1 0 = _
  rw [rem64, select_nat _ _ (by omega) (by omega)]

theorem repeat16 (k : Fin 16) (j : Fin 256) : repeatMat (F := Ideal) broadcasts_S16x256_S16x256 (iota .tc S16x256 32 [0] iota_S16x256_d0_w32) (iota .tc S16x256 32 [1] iota_S16x256_d1_w32) 16#32 (ix2 k j)
    = if j.val % 16 = k.val then (1 : EReal) else 0 := by
  pointwise [repeatMat]
  show Scalar.select (IntOp.cmpi .eq (remWord (BitVec.ofNat 32 j) 16#32) (BitVec.ofNat 32 k)) 1 0 = _
  rw [rem16, select_nat _ _ (by omega) (by omega)]

/-- A sum against a one-hot column picks one term. -/
theorem sum_onehot {N : Nat} (f : Fin N → EReal) (a : Nat) (h : a < N) : (∑ n : Fin N, f n * (if a = n.val then 1 else 0)) = f ⟨a, h⟩ := by
  rw [Finset.sum_eq_single ⟨a, h⟩ (fun n _ hn => by rw [if_neg (fun e => hn (Fin.ext e.symm)), mul_zero]) (fun hn => absurd (Finset.mem_univ _) hn)]
  rw [if_pos rfl, mul_one]

/-- A column in its group. -/
abbrev inGroup (d : Nat) (hd : 0 < d) (j : Nat) : Fin d := ⟨j % d, Nat.mod_lt _ hd⟩

/-- One part of the input matrix: on the diagonal blocks the groups' entries, zero elsewhere. -/
theorem inPart_apply (x : FVec Ideal S512x64 .bf16) (o : Nat) (h : Shape.Slices S512x64 ![o, 0] S256x64) (k : Fin 256) (j : Fin 1024) (ho : o + k.val < 512) :
    inPart x o h (ix2 k j) = if k.val / 16 = j.val / 64 then x (ix2 ⟨o + k.val, ho⟩ (inGroup 64 (Nat.succ_pos _) j)) else (0 : EReal) := by
  have hr := fun n => repeat64 n j
  pointwise [inPart, floorDiv]
  simp only [hr]
  rw [sum_onehot (fun n => x (ix2 ⟨o + k.val, ho⟩ n)) (j.val % 64) (by omega)]
  show Scalar.select (IntOp.cmpi .eq (floorWord (BitVec.ofNat 32 k) 16#32) (floorWord (BitVec.ofNat 32 j) 64#32)) _ (0 : EReal) = _
  rw [quo16, quo64, select_nat _ _ (by omega) (by omega)]

/-- One part of the output matrix. -/
theorem outPart_apply (x : FVec Ideal S2048x16 .bf16) (o : Nat) (h : Shape.Slices S2048x16 ![o, 0] S1024x16) (k : Fin 1024) (j : Fin 256) (ho : o + k.val < 2048) :
    outPart x o h (ix2 k j) = if k.val / 64 = j.val / 16 then x (ix2 ⟨o + k.val, ho⟩ (inGroup 16 (Nat.succ_pos _) j)) else (0 : EReal) := by
  have hr := fun n => repeat16 n j
  pointwise [outPart, floorDiv]
  simp only [hr]
  rw [sum_onehot (fun n => x (ix2 ⟨o + k.val, ho⟩ n)) (j.val % 16) (by omega)]
  show Scalar.select (IntOp.cmpi .eq (floorWord (BitVec.ofNat 32 k) 64#32) (floorWord (BitVec.ofNat 32 j) 16#32)) _ (0 : EReal) = _
  rw [quo64, quo16, select_nat _ _ (by omega) (by omega)]

end Cert.KernelIdeal.S5

end
-- ==== Proof.S5.Scan.lean ====
/- What the scan of one grid point leaves in the scratch array and the state, for a recurrence's values. -/
module

public import proofs.«01_k».proof.Proof.S5.Mats

@[expose] public section

set_option maxRecDepth 16384

noncomputable section

namespace Cert.KernelIdeal.S5

open Idealize.ShloMosaic Idealize.ShloMosaic.TcCoe Idealize.SL.Sem
open Idealize.ShloMosaic.VecWindow (window put)
open Cert.KernelIdeal.Facts₀ Cert.KernelIdeal.Facts

/-- An entry of a window. -/
theorem window_ix2 {α : Type} {a b a' b' : Nat} (X : (⟨2, ![a, b]⟩ : Shape).Idx → α) (r q : Nat) (inb) (i : Fin a') (j : Fin b') (hi : r + i.val < a) (hj : q + j.val < b) :
    (window (s := ⟨2, ![a, b]⟩) X ![r, q] (⟨2, ![a', b']⟩ : Shape).size inb) (ix2 i j) = X (ix2 ⟨r + i.val, hi⟩ ⟨q + j.val, hj⟩) :=
  congrArg X (funext fun k => by
    fin_cases k
    · exact Fin.ext (show r + 1 * i.val = r + i.val by omega)
    · exact Fin.ext (show q + 1 * j.val = q + j.val by omega))

/-- An entry under a store. -/
theorem put_ix2_in {α : Type} {a b a' b' : Nat} (X : (⟨2, ![a, b]⟩ : Shape).Idx → α) (r q : Nat) (w : (⟨2, ![a', b']⟩ : Shape).Idx → α) (i : Fin a') (j : Fin b')
    (y : Fin a) (z : Fin b) (hi : y.val = r + i.val) (hj : z.val = q + j.val) :
    (put (s := ⟨2, ![a, b]⟩) X ![r, q] (⟨2, ![a', b']⟩ : Shape).size w) (ix2 y z) = w (ix2 i j) := by
  unfold put
  rw [dif_pos (Fin.forall_fin_two.2 ⟨⟨show r ≤ y.val by omega, show y.val < r + a' by omega⟩, show q ≤ z.val by omega, show z.val < q + b' by omega⟩)]
  exact congrArg w (funext fun k => by
    fin_cases k
    · exact Fin.ext (show y.val - r = i.val by omega)
    · exact Fin.ext (show z.val - q = j.val by omega))

/-- An entry outside a store. -/
theorem put_ix2_out {α : Type} {a b a' b' : Nat} (X : (⟨2, ![a, b]⟩ : Shape).Idx → α) (r q : Nat) (w : (⟨2, ![a', b']⟩ : Shape).Idx → α)
    (y : Fin a) (z : Fin b) (h : y.val < r ∨ r + a' ≤ y.val ∨ z.val < q ∨ q + b' ≤ z.val) :
    (put (s := ⟨2, ![a, b]⟩) X ![r, q] (⟨2, ![a', b']⟩ : Shape).size w) (ix2 y z) = X (ix2 y z) := by
  unfold put
  rw [dif_neg]
  intro hh
  have h0 : r ≤ y.val ∧ y.val < r + a' := hh 0
  have h1 : q ≤ z.val ∧ z.val < q + b' := hh 1
  omega

/-- Row `b` of step `t` of the scratch array. -/
abbrev rowOf (t : Nat) (ht : t < 128) (b : Fin 8) : Fin 1024 := ⟨8 * t + b, by omega⟩
/-- Column `j` of the scratch array's part that begins at `q`. -/
abbrev colOf (q : Nat) (hq : q + 1024 ≤ 4096) (j : Fin 1024) : Fin 4096 := ⟨q + j, by omega⟩

section
variable (cr ci : Nat) (hr : cr + 1024 ≤ 4096) (hi : ci + 1024 ≤ 4096) (hd : cr + 1024 ≤ ci) (ar ai : FVec Ideal S8x1024 .f32)
  (X0 : FVec Ideal S1024x4096 .f32) (R I : Nat → Fin 8 → Fin 1024 → EReal)

include hd in
/-- What the scan's last `n` steps leave, where `R` and `I` are the recurrence's states. -/
theorem scan_spec
    (hR : ∀ (t : Nat) (ht : t < 128) (b : Fin 8) (j : Fin 1024), R (t + 1) b j = ar (ix2 b j) * R t b j - ai (ix2 b j) * I t b j + X0 (ix2 (rowOf t ht b) (colOf cr hr j)))
    (hI : ∀ (t : Nat) (ht : t < 128) (b : Fin 8) (j : Fin 1024), I (t + 1) b j = ar (ix2 b j) * I t b j + ai (ix2 b j) * R t b j + X0 (ix2 (rowOf t ht b) (colOf ci hi j))) :
    ∀ (n : Nat) (h : n ≤ 128) (X : FVec Ideal S1024x4096 .f32) (sr si : FVec Ideal S8x1024 .f32)
      (hX : ∀ (y : Fin 1024) (z : Fin 4096), 8 * (128 - n) ≤ y.val → X (ix2 y z) = X0 (ix2 y z))
      (hsr : ∀ b j, sr (ix2 b j) = R (128 - n) b j) (hsi : ∀ b j, si (ix2 b j) = I (128 - n) b j),
      (∀ b j, (scanF cr ci hr hi ar ai n h X sr si).2.1 (ix2 b j) = R 128 b j) ∧
      (∀ b j, (scanF cr ci hr hi ar ai n h X sr si).2.2 (ix2 b j) = I 128 b j) ∧
      (∀ (t : Nat) (ht : t < 128) (b : Fin 8) (j : Fin 1024), 128 - n ≤ t →
        (scanF cr ci hr hi ar ai n h X sr si).1 (ix2 (rowOf t ht b) (colOf cr hr j)) = R (t + 1) b j ∧
        (scanF cr ci hr hi ar ai n h X sr si).1 (ix2 (rowOf t ht b) (colOf ci hi j)) = I (t + 1) b j) ∧
      (∀ (y : Fin 1024) (z : Fin 4096), (y.val < 8 * (128 - n) ∨ ((z.val < cr ∨ cr + 1024 ≤ z.val) ∧ (z.val < ci ∨ ci + 1024 ≤ z.val))) →
        (scanF cr ci hr hi ar ai n h X sr si).1 (ix2 y z) = X (ix2 y z)) := by
  intro n
  induction n with
  | zero =>
    intro h X sr si hX hsr hsi
    exact ⟨hsr, hsi, fun t ht b j hh => by omega, fun y z _ => rfl⟩
  | succ n ih =>
    intro h X sr si hX hsr hsi
    have e : 128 - n = 128 - (n + 1) + 1 := by omega
    have hrow : ∀ (q : Nat) (hq : q + 1024 ≤ 4096) (b : Fin 8) (j : Fin 1024), rows8 X (8 * (128 - (n + 1))) q (row_le n) hq (ix2 b j)
        = X0 (ix2 ⟨8 * (128 - (n + 1)) + b, by omega⟩ ⟨q + j, by omega⟩) := fun q hq b j => by
      rw [← hX _ _ (by show _ ≤ 8 * (128 - (n + 1)) + b.val; omega)]
      exact window_ix2 X _ _ _ b j _ _
    have hnR : ∀ b j, nextR ar ai sr si (rows8 X (8 * (128 - (n + 1))) cr (row_le n) hr) (ix2 b j) = R (128 - n) b j := fun b j => by
      rw [e, hR _ (by omega), ← hrow cr hr b j, ← hsr, ← hsi]; rfl
    have hnI : ∀ b j, nextI ar ai sr si (rows8 X (8 * (128 - (n + 1))) ci (row_le n) hi) (ix2 b j) = I (128 - n) b j := fun b j => by
      rw [e, hI _ (by omega), ← hrow ci hi b j, ← hsr, ← hsi]; rfl
    unfold scanF
    obtain ⟨p1, p2, p3, p4⟩ := ih (Nat.le_of_succ_le h)
      (put (put X ![8 * (128 - (n + 1)), cr] S8x1024.size
          (nextR ar ai sr si (rows8 X (8 * (128 - (n + 1))) cr (row_le n) hr)))
        ![8 * (128 - (n + 1)), ci] S8x1024.size
          (nextI ar ai sr si (rows8 X (8 * (128 - (n + 1))) ci (row_le n) hi))) _ _
      (fun y z hy => by
        refine (put_ix2_out _ _ _ _ y z (by omega)).trans ((put_ix2_out _ _ _ _ y z (by omega)).trans (hX y z (by omega))))
      hnR hnI
    refine ⟨p1, p2, fun t ht b j htn => ?_, fun y z hyz => ?_⟩
    · by_cases ht' : 128 - n ≤ t
      · exact p3 t ht b j ht'
      · have et : t = 128 - (n + 1) := by omega
        subst et
        constructor
        · refine (p4 _ _ (Or.inl (by show _ + b.val < _; omega))).trans ?_
          refine (put_ix2_out _ _ _ _ _ _ (Or.inr (Or.inr (Or.inl (show cr + j.val < ci by omega))))).trans ?_
          refine (put_ix2_in _ _ _ _ b j _ _ rfl rfl).trans ((hnR b j).trans (by rw [e]))
        · refine (p4 _ _ (Or.inl (by show _ + b.val < _; omega))).trans ?_
          refine (put_ix2_in _ _ _ _ b j _ _ rfl rfl).trans ((hnI b j).trans (by rw [e]))
    · refine (p4 y z (by omega)).trans ?_
      exact (put_ix2_out _ _ _ _ y z (by omega)).trans (put_ix2_out _ _ _ _ y z (by omega))
end

end Cert.KernelIdeal.S5

end
-- ==== Proof.S5.RefVal.lean ====
/- The S5 reference's steps, each named, and what its run's buffers hold in their terms. -/
module

public import proofs.«01_k».proof.Proof.S5.RefRun
public import Idealize.ShloMosaic.PureOps.BitExact
public import Idealize.ShloMosaic.PureOps.Ideal
public import Idealize.ShloMosaic.PureOps.IdealRules
public import Idealize.ShloMosaic.Lib.Pipeline.ValueKit

@[expose] public section

set_option maxRecDepth 16384

noncomputable section

namespace Cert.ReferenceIdeal.S5

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo

section Steps
variable (u : FVec Ideal S8x2048x512 .f32) (re im : FVec Ideal S1x32x64 .f32) (ldt : FVec Ideal S1x32 .f32)
  (br bi : FVec Ideal S1x32x64x16 .f32) (cr ci : FVec Ideal S1x32x16x64 .f32) (sk : FVec Ideal S1x512 .f32)
  (wg : FVec Ideal S1x512x512 .f32) (bg : FVec Ideal S1x512 .f32) (wp : FVec Ideal S1x512x1024 .f32)

/-- The step sizes, one for each group. -/
def dtB : FVec Ideal S32x64 .f32 := broadcastInDim S32x64 ![0, 1] bcast_S32x1_S32x64_0_1
  (broadcastInDim S32x1 ![0] bcast_S32_S32x1_0 (Host.exp (shapeCast S32 ldt shapeCasts_S1x32_S32)))
/-- A parameter of the state without the layer's axis. -/
abbrev lay (x : FVec Ideal S1x32x64 .f32) : FVec Ideal S32x64 .f32 := shapeCast S32x64 x shapeCasts_S1x32x64_S32x64
/-- The discretised state matrix, real part. -/
def abarR : FVec Ideal S32x64 .f32 := mulf (Host.exp (mulf (lay re) (dtB ldt))) (Host.cos (mulf (lay im) (dtB ldt)))
/-- The discretised state matrix, imaginary part. -/
def abarI : FVec Ideal S32x64 .f32 := mulf (Host.exp (mulf (lay re) (dtB ldt))) (Host.sin (mulf (lay im) (dtB ldt)))
/-- The discretised state matrix less one, real part. -/
def abarR1 : FVec Ideal S32x64 .f32 := subf (abarR re im ldt) (broadcastInDim S32x64 ![] bcast_S_S32x64 (constant S_ .f32 0x3F800000#32))
/-- |A|². -/
def den : FVec Ideal S32x64 .f32 := addf (mulf (lay re) (lay re)) (mulf (lay im) (lay im))
/-- The input's coefficient, real part. -/
def coefR : FVec Ideal S32x64 .f32 := Host.divf (addf (mulf (abarR1 re im ldt) (lay re)) (mulf (abarI re im ldt) (lay im))) (den re im)
/-- The input's coefficient, imaginary part. -/
def coefI : FVec Ideal S32x64 .f32 := Host.divf (subf (mulf (abarI re im ldt) (lay re)) (mulf (abarR1 re im ldt) (lay im))) (den re im)
/-- An input matrix without the layer's axis. -/
abbrev layB (x : FVec Ideal S1x32x64x16 .f32) : FVec Ideal S32x64x16 .f32 := shapeCast S32x64x16 x shapeCasts_S1x32x64x16_S32x64x16
/-- The discretised input matrix, real part. -/
def bbarR : FVec Ideal S32x64x16 .f32 := fun i => (coefR re im ldt (ix2 (i 0) (i 1)) * layB br i - coefI re im ldt (ix2 (i 0) (i 1)) * layB bi i : EReal)
/-- The discretised input matrix, imaginary part. -/
def bbarI : FVec Ideal S32x64x16 .f32 := fun i => (coefR re im ldt (ix2 (i 0) (i 1)) * layB bi i + coefI re im ldt (ix2 (i 0) (i 1)) * layB br i : EReal)
/-- The input, its channels in groups. -/
abbrev grp : FVec Ideal S8x2048x32x16 .f32 := shapeCast S8x2048x32x16 u shapeCasts_S8x2048x512_S8x2048x32x16
/-- The product of the input with an input matrix. -/
def inProd (b : FVec Ideal S32x64x16 .f32) : FVec Ideal S8x2048x32x64 .f32 := transpose S8x2048x32x64 [1, 2, 0, 3]
  (Host.dotGeneral dot_S8x2048x32x16_S32x64x16_S32x8x2048x64_3_2_01_1_2_0 none (grp u) b) transposes_S32x8x2048x64_S8x2048x32x64_1_2_0_3
/-- A coefficient, the same at each batch and time. -/
abbrev everywhere (x : FVec Ideal S32x64 .f32) : FVec Ideal S8x2048x32x64 .f32 := broadcastInDim S8x2048x32x64 ![0, 1, 2, 3] bcast_S1x1x32x64_S8x2048x32x64_0_1_2_3
  (broadcastInDim S1x1x32x64 ![2, 3] bcast_S32x64_S1x1x32x64_2_3 x)
/-- What drives the states, time first, real part: the coefficients applied to the products. -/
def driveR : FVec Ideal S2048x8x32x64 .f32 := transpose S2048x8x32x64 [1, 0, 2, 3]
  (subf (mulf (everywhere (coefR re im ldt)) (inProd u (layB br))) (mulf (everywhere (coefI re im ldt)) (inProd u (layB bi)))) transposes_S8x2048x32x64_S2048x8x32x64_1_0_2_3
/-- What drives the states, time first, imaginary part. -/
def driveI : FVec Ideal S2048x8x32x64 .f32 := transpose S2048x8x32x64 [1, 0, 2, 3]
  (addf (mulf (everywhere (coefR re im ldt)) (inProd u (layB bi))) (mulf (everywhere (coefI re im ldt)) (inProd u (layB br)))) transposes_S8x2048x32x64_S2048x8x32x64_1_0_2_3
/-- The product of the input with one matrix, time first. With the discretised input matrix it drives the states too. -/
def drive (b : FVec Ideal S32x64x16 .f32) : FVec Ideal S2048x8x32x64 .f32 :=
  transpose S2048x8x32x64 [1, 0, 2, 3] (transpose S8x2048x32x64 [1, 2, 0, 3]
    (Host.dotGeneral dot_S8x2048x32x16_S32x64x16_S32x8x2048x64_3_2_01_1_2_0 none (grp u) b) transposes_S32x8x2048x64_S8x2048x32x64_1_2_0_3)
    transposes_S8x2048x32x64_S2048x8x32x64_1_0_2_3

/-- The product of the states with an output matrix. -/
def readout (s : FVec Ideal S2048x8x32x64 .f32) (c : FVec Ideal S32x16x64 .f32) : FVec Ideal S8x2048x32x16 .f32 :=
  transpose S8x2048x32x16 [1, 2, 0, 3] (Host.dotGeneral dot_S8x2048x32x64_S32x16x64_S32x8x2048x16_3_2_01_1_2_0 none
    (transpose S8x2048x32x64 [1, 0, 2, 3] s transposes_S2048x8x32x64_S8x2048x32x64_1_0_2_3) c) transposes_S32x8x2048x16_S8x2048x32x16_1_2_0_3
/-- The recurrence's output with the skip. -/
def mixedSub (sr si : FVec Ideal S2048x8x32x64 .f32) : FVec Ideal S8x2048x512 .f32 :=
  shapeCast S8x2048x512 (addf (subf (readout sr (shapeCast S32x16x64 cr shapeCasts_S1x32x16x64_S32x16x64))
      (readout si (shapeCast S32x16x64 ci shapeCasts_S1x32x16x64_S32x16x64)))
    (mulf (broadcastInDim S8x2048x32x16 ![0, 1, 2, 3] bcast_S1x1x32x16_S8x2048x32x16_0_1_2_3 (broadcastInDim S1x1x32x16 ![2, 3] bcast_S32x16_S1x1x32x16_2_3
      (shapeCast S32x16 (shapeCast S512 sk shapeCasts_S1x512_S512) shapeCasts_S512_S32x16))) (grp u))) shapeCasts_S8x2048x32x16_S8x2048x512
/-- The recurrence's output with the skip, the output matrix's imaginary part negated first. -/
def mixed (sr si : FVec Ideal S2048x8x32x64 .f32) : FVec Ideal S8x2048x512 .f32 :=
  shapeCast S8x2048x512 (addf (addf (readout sr (shapeCast S32x16x64 cr shapeCasts_S1x32x16x64_S32x16x64))
      (readout si (Host.negf (shapeCast S32x16x64 ci shapeCasts_S1x32x16x64_S32x16x64))))
    (mulf (broadcastInDim S8x2048x32x16 ![0, 1, 2, 3] bcast_S1x1x32x16_S8x2048x32x16_0_1_2_3 (broadcastInDim S1x1x32x16 ![2, 3] bcast_S32x16_S1x1x32x16_2_3
      (shapeCast S32x16 (shapeCast S512 sk shapeCasts_S1x512_S512) shapeCasts_S512_S32x16))) (grp u))) shapeCasts_S8x2048x32x16_S8x2048x512
/-- A constant at every place. -/
abbrev all (x : BitVec 32) : FVec Ideal S8x2048x512 .f32 := broadcastInDim S8x2048x512 ![] bcast_S_S8x2048x512 (constant S_ .f32 x)
/-- `gelu` by its tanh formula. -/
def gelu (y : FVec Ideal S8x2048x512 .f32) : FVec Ideal S8x2048x512 .f32 :=
  mulf y (mulf (all 0x3F000000#32) (addf (all 0x3F800000#32) (Host.tanh (mulf (all 0x3F4C422A#32)
    (addf y (mulf (all 0x3D372713#32) (mulf (mulf y y) y)))))))
/-- The gated linear unit. -/
def glu (y : FVec Ideal S8x2048x512 .f32) : FVec Ideal S8x2048x512 .f32 :=
  mulf y (Host.divf (all 0x3F800000#32) (addf (all 0x3F800000#32) (Host.exp (Host.negf (addf
    (Host.dotGeneral dot_S8x2048x512_S512x512_S8x2048x512_2_0_01_1_n_n none y (shapeCast S512x512 wg shapeCasts_S1x512x512_S512x512))
    (broadcastInDim S8x2048x512 ![0, 1, 2] bcast_S1x1x512_S8x2048x512_0_1_2 (broadcastInDim S1x1x512 ![2] bcast_S512_S1x1x512_2 (shapeCast S512 bg shapeCasts_S1x512_S512))))))))
/-- The projection. -/
def proj (y : FVec Ideal S8x2048x512 .f32) : FVec Ideal S8x2048x1024 .bf16 :=
  truncf .bf16 (Host.dotGeneral dot_S8x2048x512_S512x1024_S8x2048x1024_2_0_01_1_n_n none y (shapeCast S512x1024 wp shapeCasts_S1x512x1024_S512x1024)) bitsLt_bf16_f32
end Steps

variable (m : (ℓ : Loc nD τ sig) → Buf (Elt Ideal) ℓ) (c : Dev nD)

/-- The loop starts from the discretised matrices, what drives the states, and zero states. -/
theorem entry_2 : entryContents preI m c (Proc.devRef .tc main_v55_2) = abarR (m ((c.tc : Thread nD τ).loc main_arg1)) (m ((c.tc : Thread nD τ).loc main_arg2)) (m ((c.tc : Thread nD τ).loc main_arg3)) := by
  simp only [entryContents, afterL_cons, afterL_nil]
  after_reads_simp
  rfl
theorem entry_3 : entryContents preI m c (Proc.devRef .tc main_v55_3) = abarI (m ((c.tc : Thread nD τ).loc main_arg1)) (m ((c.tc : Thread nD τ).loc main_arg2)) (m ((c.tc : Thread nD τ).loc main_arg3)) := by
  simp only [entryContents, afterL_cons, afterL_nil]
  after_reads_simp
  rfl
theorem entry_0 : entryContents preI m c (Proc.devRef .tc main_v55_0) = driveR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  simp only [entryContents, afterL_cons, afterL_nil]
  after_reads_simp
  rfl
theorem entry_1 : entryContents preI m c (Proc.devRef .tc main_v55_1) = driveI (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  simp only [entryContents, afterL_cons, afterL_nil]
  after_reads_simp
  rfl
theorem entry_5 : entryContents preI m c (Proc.devRef .tc main_v55_5) = broadcastInDim S8x32x64 ![] bcast_S_S8x32x64 (constant (F := Ideal) S_ .f32 0x00000000#32) := by
  simp only [entryContents, afterL_cons, afterL_nil]
  after_reads_simp
  rfl
theorem entry_6 : entryContents preI m c (Proc.devRef .tc main_v55_6) = broadcastInDim S8x32x64 ![] bcast_S_S8x32x64 (constant (F := Ideal) S_ .f32 0x00000000#32) := by
  simp only [entryContents, afterL_cons, afterL_nil]
  after_reads_simp
  rfl

/-- The result, of any contents after the scan. -/
theorem post_eq (X : Valuation τ sig (Elt Ideal)) : after hostOps0_1 X (Proc.devRef .tc main_v100)
    = proj (X (Proc.devRef .tc main_arg11)) (glu (X (Proc.devRef .tc main_arg9)) (X (Proc.devRef .tc main_arg10))
        (gelu (shapeCast S8x2048x512 (addf (subf (readout (X (Proc.devRef .tc main_v55_7)) (shapeCast S32x16x64 (X (Proc.devRef .tc main_arg6) : FVec Ideal S1x32x16x64 .f32) shapeCasts_S1x32x16x64_S32x16x64))
      (readout (X (Proc.devRef .tc main_v55_8)) (shapeCast S32x16x64 (X (Proc.devRef .tc main_arg7) : FVec Ideal S1x32x16x64 .f32) shapeCasts_S1x32x16x64_S32x16x64)))
    (mulf (broadcastInDim S8x2048x32x16 ![0, 1, 2, 3] bcast_S1x1x32x16_S8x2048x32x16_0_1_2_3 (broadcastInDim S1x1x32x16 ![2, 3] bcast_S32x16_S1x1x32x16_2_3
      (shapeCast S32x16 (shapeCast S512 (X (Proc.devRef .tc main_arg8) : FVec Ideal S1x512 .f32) shapeCasts_S1x512_S512) shapeCasts_S512_S32x16))) (X (Proc.devRef .tc main_v0)))) shapeCasts_S8x2048x32x16_S8x2048x512))) := by
  after_reads_simp
  rfl

end Cert.ReferenceIdeal.S5

end
-- ==== Proof.S5.RefLoop.lean ====
/- The S5 reference's scan: what its states and its stored states are, trip by trip. -/
module

public import proofs.«01_k».proof.Proof.S5.RefVal
public import Idealize.ShloMosaic.Lib.DynamicIndex
public import Idealize.ShloMosaic.Lib.WordArith.Masks

@[expose] public section

set_option maxRecDepth 16384

noncomputable section

namespace Cert.ReferenceIdeal.S5

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo

variable (m : (ℓ : Loc nD τ sig) → Buf (Elt Ideal) ℓ) (c : Dev nD)

/-- The carried buffers before trip `k`. -/
def W (k : Nat) : Valuation τ sig (Elt Ideal) := STEP^[k] (entryContents preI m c)

theorem W_succ (k : Nat) : W m c (k + 1) = STEP (W m c k) := Function.iterate_succ_apply' _ _ _

theorem W_0 (k : Nat) : W m c k (Proc.devRef .tc main_v55_0) = entryContents preI m c (Proc.devRef .tc main_v55_0) := by
  induction k with
  | zero => rfl
  | succ k ih => rw [W_succ, STEP_main_v55_0, ih]
theorem W_1 (k : Nat) : W m c k (Proc.devRef .tc main_v55_1) = entryContents preI m c (Proc.devRef .tc main_v55_1) := by
  induction k with
  | zero => rfl
  | succ k ih => rw [W_succ, STEP_main_v55_1, ih]
theorem W_2 (k : Nat) : W m c k (Proc.devRef .tc main_v55_2) = entryContents preI m c (Proc.devRef .tc main_v55_2) := by
  induction k with
  | zero => rfl
  | succ k ih => rw [W_succ, STEP_main_v55_2, ih]
theorem W_3 (k : Nat) : W m c k (Proc.devRef .tc main_v55_3) = entryContents preI m c (Proc.devRef .tc main_v55_3) := by
  induction k with
  | zero => rfl
  | succ k ih => rw [W_succ, STEP_main_v55_3, ih]
theorem W_4 (k : Nat) : W m c k (Proc.devRef .tc main_v55_4) = fun _ => Scf.iv 0#32 1#32 k := by
  rw [← atK_ctr m c k]; exact (atK_agree m c k main_v55_4 (by decide)).symm

/-- The counter as a number. -/
theorem ctr_int (k : Nat) (hk : k < 2048) : (Scf.iv 0#32 1#32 k : BitVec 32).toInt = k := by
  have := WordArith.toNat_iv_zero_one k (by omega)
  rw [BitVec.toInt_eq_toNat_of_lt (by omega), this]

/-- A slice at row `k`. -/
theorem slice_row (x : FVec Ideal S2048x8x32x64 .f32) (k : Fin 2048) (start : Fin 4 → Int) (hs : start = ![(k : Int), 0, 0, 0]) (h) (b : Fin 8) (g : Fin 32) (n : Fin 64) :
    (shapeCast S8x32x64 (Host.dynamicSlice S1x8x32x64 x start h) shapeCasts_S1x8x32x64_S8x32x64 : FVec Ideal S8x32x64 .f32) (ix3 b g n) = x (ix4 k b g n) := by
  subst hs
  have hoff : S2048x8x32x64.Slices ![k.val, 0, 0, 0] S1x8x32x64 := ⟨rfl, fun a => by fin_cases a <;> simp [S2048x8x32x64, S1x8x32x64] <;> omega⟩
  rw [Host.dynamicSlice_eq_extractStridedSlice S1x8x32x64 x _ ![k.val, 0, 0, 0] h hoff (fun a => by fin_cases a <;> rfl)]
  pointwise

/-- An update at row `k`. -/
theorem update_row (x : FVec Ideal S2048x8x32x64 .f32) (y : FVec Ideal S8x32x64 .f32) (k l : Fin 2048) (start : Fin 4 → Int) (hs : start = ![(k : Int), 0, 0, 0]) (h) (b : Fin 8) (g : Fin 32) (n : Fin 64) :
    (Host.dynamicUpdateSlice x (broadcastInDim S1x8x32x64 ![1, 2, 3] bcast_S8x32x64_S1x8x32x64_1_2_3 y) start h : FVec Ideal S2048x8x32x64 .f32) (ix4 l b g n)
      = if l = k then y (ix3 b g n) else x (ix4 l b g n) := by
  subst hs
  have hoff : S2048x8x32x64.Slices ![k.val, 0, 0, 0] S1x8x32x64 := ⟨rfl, fun a => by fin_cases a <;> simp [S2048x8x32x64, S1x8x32x64] <;> omega⟩
  rw [Host.dynamicUpdateSlice_eq_updateSlice x _ _ h ![k.val, 0, 0, 0] (fun a => by fin_cases a <;> simp [S2048x8x32x64, S1x8x32x64] <;> omega) hoff]
  pointwise
  rw [dite_eq_ite]
  exact if_congr ⟨fun hkl => Fin.ext (by omega), fun hkl => by subst hkl; omega⟩ rfl rfl

/-- The states before trip `k`, real part. -/
def stR (k : Nat) : FVec Ideal S8x32x64 .f32 := W m c k (Proc.devRef .tc main_v55_5)
/-- The states before trip `k`, imaginary part. -/
def stI (k : Nat) : FVec Ideal S8x32x64 .f32 := W m c k (Proc.devRef .tc main_v55_6)

/-- The discretised state matrix of a run. -/
abbrev aR : FVec Ideal S32x64 .f32 := abarR (m ((c.tc : Thread nD τ).loc main_arg1)) (m ((c.tc : Thread nD τ).loc main_arg2)) (m ((c.tc : Thread nD τ).loc main_arg3))
abbrev aI : FVec Ideal S32x64 .f32 := abarI (m ((c.tc : Thread nD τ).loc main_arg1)) (m ((c.tc : Thread nD τ).loc main_arg2)) (m ((c.tc : Thread nD τ).loc main_arg3))
/-- What drives the states of a run. -/
abbrev bR : FVec Ideal S2048x8x32x64 .f32 := driveR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))
abbrev bI : FVec Ideal S2048x8x32x64 .f32 := driveI (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))

theorem stR_zero (i : S8x32x64.Idx) : stR m c 0 i = (0 : EReal) := by
  rw [stR, show W m c 0 = entryContents preI m c from rfl, entry_5]
  pointwise
theorem stI_zero (i : S8x32x64.Idx) : stI m c 0 i = (0 : EReal) := by
  rw [stI, show W m c 0 = entryContents preI m c from rfl, entry_6]
  pointwise

/-- The start indices of trip `k`. -/
theorem starts (k : Fin 2048) : (fun a => (((![W m c k (Proc.devRef .tc main_v55_4), constantI S_ 32 0#32, constantI S_ 32 0#32, constantI S_ 32 0#32] : Fin 4 → (⟨S_, .i32⟩ : BufTy).Contents (Elt Ideal))) a (Shape.Idx.first h_S_)).toInt)
    = ![(k : Int), 0, 0, 0] := by
  funext a
  rw [W_4]
  fin_cases a
  · exact ctr_int k k.isLt
  · rfl
  · rfl
  · rfl

/-- The recurrence, real part. -/
theorem stR_succ (k : Fin 2048) (b : Fin 8) (g : Fin 32) (n : Fin 64) :
    stR m c (k + 1) (ix3 b g n) = (aR m c (ix2 g n) * stR m c k (ix3 b g n) - aI m c (ix2 g n) * stI m c k (ix3 b g n) + bR m c (ix4 k b g n) : EReal) := by
  rw [stR, W_succ, STEP_main_v55_5, step_main_v55_5, id_eq, res_main_while0b_v110]
  refine congrArg₂ (fun p q : EReal => p + q) ?_ ((slice_row _ k _ (starts m c k) sliceFits_S2048x8x32x64_S1x8x32x64 b g n).trans ?_)
  · rw [W_2, W_3, entry_2, entry_3]
    pointwise
    rfl
  · rw [W_0, entry_0]
theorem stI_succ (k : Fin 2048) (b : Fin 8) (g : Fin 32) (n : Fin 64) :
    stI m c (k + 1) (ix3 b g n) = (aR m c (ix2 g n) * stI m c k (ix3 b g n) + aI m c (ix2 g n) * stR m c k (ix3 b g n) + bI m c (ix4 k b g n) : EReal) := by
  rw [stI, W_succ, STEP_main_v55_6, step_main_v55_6, id_eq, res_main_while0b_v118]
  refine congrArg₂ (fun p q : EReal => p + q) ?_ ((slice_row _ k _ (starts m c k) sliceFits_S2048x8x32x64_S1x8x32x64 b g n).trans ?_)
  · rw [W_2, W_3, entry_2, entry_3]
    pointwise
    rfl
  · rw [W_1, entry_1]

/-- Each trip's states are stored, and stay. -/
theorem W_7 (k : Nat) (l : Fin 2048) (hl : l.val < k) (hk : k ≤ 2048) (b : Fin 8) (g : Fin 32) (n : Fin 64) :
    (W m c k (Proc.devRef .tc main_v55_7) : FVec Ideal S2048x8x32x64 .f32) (ix4 l b g n) = stR m c (l + 1) (ix3 b g n) := by
  induction k with
  | zero => omega
  | succ k ih =>
    rw [W_succ, STEP_main_v55_7, step_main_v55_7, id_eq]
    refine (update_row _ _ ⟨k, hk⟩ l _ (starts m c ⟨k, hk⟩) updateFits_S2048x8x32x64_S1x8x32x64 b g n).trans ?_
    split
    · next e => subst e; rw [stR, W_succ, STEP_main_v55_5, step_main_v55_5, id_eq]
    · next e => exact ih (lt_of_le_of_ne (Nat.lt_succ_iff.mp hl) fun h => e (Fin.ext h)) (by omega)
theorem W_8 (k : Nat) (l : Fin 2048) (hl : l.val < k) (hk : k ≤ 2048) (b : Fin 8) (g : Fin 32) (n : Fin 64) :
    (W m c k (Proc.devRef .tc main_v55_8) : FVec Ideal S2048x8x32x64 .f32) (ix4 l b g n) = stI m c (l + 1) (ix3 b g n) := by
  induction k with
  | zero => omega
  | succ k ih =>
    rw [W_succ, STEP_main_v55_8, step_main_v55_8, id_eq]
    refine (update_row _ _ ⟨k, hk⟩ l _ (starts m c ⟨k, hk⟩) updateFits_S2048x8x32x64_S1x8x32x64 b g n).trans ?_
    split
    · next e => subst e; rw [stI, W_succ, STEP_main_v55_6, step_main_v55_6, id_eq]
    · next e => exact ih (lt_of_le_of_ne (Nat.lt_succ_iff.mp hl) fun h => e (Fin.ext h)) (by omega)

/-- A trip leaves the grouped input. -/
theorem atK_v0 : ∀ k, atK m k c (Proc.devRef .tc main_v0) = grp (m ((c.tc : Thread nD τ).loc main_arg0))
  | 0 => by
    rw [show atK m 0 c = after hostOps0 (launchContents m c) from rfl]
    after_reads_simp
    rfl
  | k + 1 => by
    rw [show atK m (k + 1) c = afterL bodyI (after condOps (atK m k c)) from rfl]
    simp only [bodyI, afterL_cons, afterL_nil]
    rw [after_of_writes_sub while0Ops0_5 _ while0Ops0_5_writes (by decide +kernel),
      after_of_writes_sub while0Ops0_4 _ while0Ops0_4_writes (by decide +kernel),
      after_of_writes_sub while0Ops0_3 _ while0Ops0_3_writes (by decide +kernel),
      after_of_writes_sub while0Ops0_2 _ while0Ops0_2_writes (by decide +kernel),
      after_of_writes_sub while0Ops0_1 _ while0Ops0_1_writes (by decide +kernel),
      after_of_writes_sub while0Ops0 _ while0Ops0_writes (by decide +kernel),
      after_of_writes_sub condOps _ condOps_writes (by decide +kernel), atK_v0 k]

/-- The reference's result: the readout of the stored states, through gelu, the gated linear unit and the projection. -/
theorem result_eq : after hostOps0_1 (after condOps (atK m 2048 c)) (Proc.devRef .tc main_v100)
    = proj (m ((c.tc : Thread nD τ).loc main_arg11)) (glu (m ((c.tc : Thread nD τ).loc main_arg9)) (m ((c.tc : Thread nD τ).loc main_arg10)) (gelu (mixedSub (m ((c.tc : Thread nD τ).loc main_arg0))
        (m ((c.tc : Thread nD τ).loc main_arg6)) (m ((c.tc : Thread nD τ).loc main_arg7)) (m ((c.tc : Thread nD τ).loc main_arg8))
        (W m c 2048 (Proc.devRef .tc main_v55_7)) (W m c 2048 (Proc.devRef .tc main_v55_8))))) := by
  have hc : ∀ r ∈ argRefs, after condOps (atK m 2048 c) (Proc.devRef .tc r) = m ((c.tc : Thread nD τ).loc r) := fun r hr => by
    rw [after_of_writes_sub condOps _ condOps_writes (by revert r; decide +kernel), atK_arg m c r hr]
  have hv : after condOps (atK m 2048 c) (Proc.devRef .tc main_v0) = grp (m ((c.tc : Thread nD τ).loc main_arg0)) := by
    rw [after_of_writes_sub condOps _ condOps_writes (by decide +kernel), atK_v0]
  have h7 : after condOps (atK m 2048 c) (Proc.devRef .tc main_v55_7) = W m c 2048 (Proc.devRef .tc main_v55_7) :=
    (cond_keeps _ main_v55_7 (by decide)).trans (atK_agree m c 2048 main_v55_7 (by decide))
  have h8 : after condOps (atK m 2048 c) (Proc.devRef .tc main_v55_8) = W m c 2048 (Proc.devRef .tc main_v55_8) :=
    (cond_keeps _ main_v55_8 (by decide)).trans (atK_agree m c 2048 main_v55_8 (by decide))
  rw [post_eq, h7, h8, hv, hc main_arg6 (by decide), hc main_arg7 (by decide), hc main_arg8 (by decide), hc main_arg9 (by decide), hc main_arg10 (by decide), hc main_arg11 (by decide)]
  rfl

end Cert.ReferenceIdeal.S5

end
-- ==== Proof.S5.Link.lean ====
/- The kernel's discretised matrices and the reference's, entry by entry. -/
module

public import proofs.«01_k».proof.Proof.S5.Scan
public import proofs.«01_k».proof.Proof.S5.RefLoop

@[expose] public section

set_option maxRecDepth 16384

noncomputable section

open Idealize.ShloMosaic Idealize.ShloMosaic.TcCoe Idealize.SL.Sem

namespace Cert.S5

open Cert.KernelIdeal (S512x64 S2048x16 S256x64 S1024x16 S256x2048 S2048x256)
open Cert.ReferenceIdeal (S1x32x64 S1x32 S1x32x64x16 S1x32x16x64 S32x64x16 S8x2048x512 S2048x8x32x64 S32x16x64)

/-- Channel `p` of group `g`. -/
abbrev chOf (g : Fin 32) (p : Fin 16) : Fin 512 := ⟨16 * g + p, by omega⟩
/-- State `n` of group `g`. -/
abbrev stOf (g : Fin 32) (n : Fin 64) : Fin 2048 := ⟨64 * g + n, by omega⟩

section
variable (x0 x1 x2 x3 x4 : FVec Ideal S512x64 .f32) (re im : FVec Ideal S1x32x64 .f32) (ldt : FVec Ideal S1x32 .f32) (br bi : FVec Ideal S1x32x64x16 .f32)
  (h0 : ∀ (g : Fin 32) (p : Fin 16) (n : Fin 64), x0 (ix2 (chOf g p) n) = re (ix3 0 g n))
  (h1 : ∀ (g : Fin 32) (p : Fin 16) (n : Fin 64), x1 (ix2 (chOf g p) n) = im (ix3 0 g n))
  (h2 : ∀ (g : Fin 32) (p : Fin 16) (n : Fin 64), x2 (ix2 (chOf g p) n) = ldt (ix2 0 g))
  (h3 : ∀ (g : Fin 32) (p : Fin 16) (n : Fin 64), x3 (ix2 (chOf g p) n) = br (ix4 0 g n p))
  (h4 : ∀ (g : Fin 32) (p : Fin 16) (n : Fin 64), x4 (ix2 (chOf g p) n) = bi (ix4 0 g n p))
  (g : Fin 32) (p : Fin 16) (n : Fin 64)
include h0 h1 h2

theorem abarR_row : KernelIdeal.S5.abarR x0 x1 x2 (ix2 (chOf g p) n) = ReferenceIdeal.S5.abarR re im ldt (ix2 g n) := by
  pointwise [KernelIdeal.S5.abarR, ReferenceIdeal.S5.abarR, KernelIdeal.S5.mag, KernelIdeal.S5.angle, ReferenceIdeal.S5.dtB]
  simp only [h0, h1, h2]; try rfl
theorem abarI_row : KernelIdeal.S5.abarI x0 x1 x2 (ix2 (chOf g p) n) = ReferenceIdeal.S5.abarI re im ldt (ix2 g n) := by
  pointwise [KernelIdeal.S5.abarI, ReferenceIdeal.S5.abarI, KernelIdeal.S5.mag, KernelIdeal.S5.angle, ReferenceIdeal.S5.dtB]
  simp only [h0, h1, h2]; try rfl
theorem coefR_row : KernelIdeal.S5.coefR x0 x1 x2 (ix2 (chOf g p) n) = ReferenceIdeal.S5.coefR re im ldt (ix2 g n) := by
  have a := abarR_row x0 x1 x2 re im ldt h0 h1 h2 g p n
  have b := abarI_row x0 x1 x2 re im ldt h0 h1 h2 g p n
  pointwise [KernelIdeal.S5.coefR, ReferenceIdeal.S5.coefR, KernelIdeal.S5.abarR1, ReferenceIdeal.S5.abarR1, KernelIdeal.S5.den, ReferenceIdeal.S5.den]
  simp only [h0, h1, a, b]; try rfl
theorem coefI_row : KernelIdeal.S5.coefI x0 x1 x2 (ix2 (chOf g p) n) = ReferenceIdeal.S5.coefI re im ldt (ix2 g n) := by
  have a := abarR_row x0 x1 x2 re im ldt h0 h1 h2 g p n
  have b := abarI_row x0 x1 x2 re im ldt h0 h1 h2 g p n
  pointwise [KernelIdeal.S5.coefI, ReferenceIdeal.S5.coefI, KernelIdeal.S5.abarR1, ReferenceIdeal.S5.abarR1, KernelIdeal.S5.den, ReferenceIdeal.S5.den]
  simp only [h0, h1, a, b]; try rfl
include h3 h4
theorem bbarR_row : KernelIdeal.S5.bbarR x0 x1 x2 x3 x4 (ix2 (chOf g p) n) = ReferenceIdeal.S5.bbarR re im ldt br bi (ix3 g n p) := by
  have a := coefR_row x0 x1 x2 re im ldt h0 h1 h2 g p n
  have b := coefI_row x0 x1 x2 re im ldt h0 h1 h2 g p n
  pointwise [KernelIdeal.S5.bbarR, ReferenceIdeal.S5.bbarR]
  simp only [h3, h4, a, b]; try rfl
theorem bbarI_row : KernelIdeal.S5.bbarI x0 x1 x2 x3 x4 (ix2 (chOf g p) n) = ReferenceIdeal.S5.bbarI re im ldt br bi (ix3 g n p) := by
  have a := coefR_row x0 x1 x2 re im ldt h0 h1 h2 g p n
  have b := coefI_row x0 x1 x2 re im ldt h0 h1 h2 g p n
  pointwise [KernelIdeal.S5.bbarI, ReferenceIdeal.S5.bbarI]
  simp only [h3, h4, a, b]; try rfl
end

/-- What drives the states: a sum over a group's channels. -/
theorem drive_apply (u : FVec Ideal S8x2048x512 .f32) (bb : FVec Ideal S32x64x16 .f32) (t : Fin 2048) (b : Fin 8) (g : Fin 32) (n : Fin 64) :
    ReferenceIdeal.S5.drive u bb (ix4 t b g n) = ∑ p : Fin 16, (u (ix3 b t (chOf g p)) * bb (ix3 g n p) : EReal) := by
  pointwise [ReferenceIdeal.S5.drive]
  have e : ∀ p : Fin 16, (⟨g.val * 16 + p.val, by omega⟩ : Fin 512) = chOf g p := fun p => Fin.ext (by show g.val * 16 + p.val = 16 * g.val + p.val; omega)
  simp only [e]

/-- The readout: a sum over a group's states. -/
theorem readout_apply (s : FVec Ideal S2048x8x32x64 .f32) (cc : FVec Ideal S32x16x64 .f32) (t : Fin 2048) (b : Fin 8) (g : Fin 32) (p : Fin 16) :
    ReferenceIdeal.S5.readout s cc (ix4 b t g p) = ∑ n : Fin 64, (s (ix4 t b g n) * cc (ix3 g p n) : EReal) := by
  pointwise [ReferenceIdeal.S5.readout]

/-- Entry `p` of block `g`. -/
abbrev inBlock {N P : Nat} (g : Nat) (hg : P * g + P ≤ N) (p : Fin P) : Fin N := ⟨P * g + p, by omega⟩

/-- A sum over a block-diagonal matrix's column is the sum over its block. -/
theorem sum_block {N P : Nat} (hP : 0 < P) (g : Nat) (hg : P * g + P ≤ N) (f h : Fin N → EReal) :
    (∑ k : Fin N, f k * (if k.val / P = g then h k else 0)) = ∑ p : Fin P, f (inBlock g hg p) * h (inBlock g hg p) := by
  symm
  refine Finset.sum_of_injOn (fun p : Fin P => (⟨P * g + p, by omega⟩ : Fin N)) (fun a _ b _ e => Fin.ext (by simpa using e)) (fun _ _ => Finset.mem_univ _)
    (fun k _ hk => ?_) (fun p _ => ?_)
  · rw [if_neg, mul_zero]
    intro e
    refine hk ⟨⟨k.val % P, Nat.mod_lt _ hP⟩, Finset.mem_coe.2 (Finset.mem_univ _), Fin.ext ?_⟩
    show P * g + k.val % P = k.val
    rw [← e]; exact Nat.div_add_mod _ _
  · rw [if_pos]
    show (P * g + p.val) / P = g
    rw [Nat.mul_add_div hP, Nat.div_eq_of_lt p.isLt, add_zero]

end Cert.S5

end
-- ==== Proof.S5.Drive.lean ====
/- What drives the states: the kernel's block-diagonal products and the reference's grouped ones. -/
module

public import proofs.«01_k».proof.Proof.S5.Link

@[expose] public section

set_option maxRecDepth 16384

noncomputable section

open Idealize.ShloMosaic Idealize.ShloMosaic.TcCoe Idealize.SL.Sem

namespace Cert.S5

open Cert.KernelIdeal (S512x64 S2048x16 S256x64 S1024x16 S256x1024 S1024x256 S256x2048 S2048x256 S8x128x512 S1024x512 S1024x2048 S1024x4096 S8x2048)
open Cert.ReferenceIdeal (S1x32x64 S1x32 S1x32x64x16 S1x32x16x64 S32x64x16 S8x2048x512 S2048x8x32x64 S32x16x64)
open Cert.KernelIdeal.S5 hiding abarR abarI den coefR coefI bbarR bbarI

/-- A column of the left or right part of an input matrix. -/
abbrev leftCol (j : Fin 1024) : Fin 2048 := ⟨j, by omega⟩
abbrev rightCol (j : Fin 1024) : Fin 2048 := ⟨1024 + j, by omega⟩
/-- Column `j` of half `hh` of the state matrix's row block. -/
abbrev halfCol (hh : Nat) (hq : hh < 2) (j : Fin 1024) : Fin 2048 := ⟨1024 * hh + j, by omega⟩
/-- Channel `k` of half `hh`. -/
abbrev halfCh (hh : Nat) (hq : hh < 2) (k : Fin 256) : Fin 512 := ⟨256 * hh + k, by omega⟩
/-- A number in its group of sixteen. -/
abbrev pOf (k : Nat) : Fin 16 := ⟨k % 16, by omega⟩

/-- The entries of two matrices side by side. -/
theorem besides_left (a b : FVec Ideal S256x1024 .bf16) (k : Fin 256) (j : Fin 1024) : besides a b (ix2 k (leftCol j)) = a (ix2 k j) := by
  unfold besides
  refine (dif_pos (show j.val < 1024 from j.isLt)).trans ?_
  exact congrArg a (funext fun q => by fin_cases q <;> rfl)
theorem besides_right (a b : FVec Ideal S256x1024 .bf16) (k : Fin 256) (j : Fin 1024) : besides a b (ix2 k (rightCol j)) = b (ix2 k j) := by
  unfold besides
  refine (dif_neg (show ¬ 1024 + j.val < 1024 by omega)).trans ?_
  exact congrArg b (funext fun q => by
    fin_cases q
    · rfl
    · exact Fin.ext (show 1024 + j.val - 1024 = j.val by omega))
/-- The entries of two matrices one above the other. -/
theorem above_top (a b : FVec Ideal S1024x256 .bf16) (k : Fin 1024) (j : Fin 256) : above a b (ix2 (leftCol k) j) = a (ix2 k j) := by
  unfold above
  refine (dif_pos (show k.val < 1024 from k.isLt)).trans ?_
  exact congrArg a (funext fun q => by fin_cases q <;> rfl)
theorem above_bottom (a b : FVec Ideal S1024x256 .bf16) (k : Fin 1024) (j : Fin 256) : above a b (ix2 (rightCol k) j) = b (ix2 k j) := by
  unfold above
  refine (dif_neg (show ¬ 1024 + k.val < 1024 by omega)).trans ?_
  exact congrArg b (funext fun q => by
    fin_cases q
    · exact Fin.ext (show 1024 + k.val - 1024 = k.val by omega)
    · rfl)
/-- The entries of the state matrix's row block. -/
theorem groupCols_apply (v : FVec Ideal S512x64 .f32) (b : Fin 8) (j : Fin 2048) :
    groupCols v (ix2 b j) = v (ix2 ⟨16 * (j.val / 64) + b.val, by omega⟩ ⟨j.val % 64, by omega⟩) :=
  congrArg v (funext fun q => by fin_cases q <;> rfl)

/-- A group's number in a half, and a state's number in a group, of a column. -/
abbrev gOf (hh : Nat) (hq : hh < 2) (j : Fin 1024) : Fin 32 := ⟨16 * hh + j.val / 64, by omega⟩
abbrev nOf (j : Fin 1024) : Fin 64 := ⟨j.val % 64, by omega⟩

/-- A block-diagonal product is the reference's grouped product. -/
theorem block_drive (u : FVec Ideal S8x2048x512 .f32) (bb : FVec Ideal S32x64x16 .f32) (t : Fin 2048) (b : Fin 8) (hh : Nat) (hq : hh < 2) (j : Fin 1024) :
    (∑ k : Fin 256, (u (ix3 b t (halfCh hh hq k)) : EReal) * (if k.val / 16 = j.val / 64 then bb (ix3 (gOf hh hq j) (nOf j) (pOf k.val)) else 0))
      = ReferenceIdeal.S5.drive u bb (ix4 t b (gOf hh hq j) (nOf j)) := by
  refine (sum_block (by omega) (j.val / 64) (by omega) (fun k : Fin 256 => u (ix3 b t (halfCh hh hq k))) (fun k => bb (ix3 (gOf hh hq j) (nOf j) (pOf k.val)))).trans
    (Eq.trans ?_ (drive_apply u bb t b (gOf hh hq j) (nOf j)).symm)
  refine Finset.sum_congr rfl fun p _ => ?_
  have e1 : halfCh hh hq (inBlock (j.val / 64) (by omega) p) = chOf (gOf hh hq j) p := Fin.ext (by show 256 * hh + (16 * (j.val / 64) + p.val) = 16 * (16 * hh + j.val / 64) + p.val; omega)
  have e2 : pOf (inBlock (N := 256) (j.val / 64) (by omega) p).val = p := Fin.ext (by show (16 * (j.val / 64) + p.val) % 16 = p.val; omega)
  simp only [e1, e2]

section
variable (x0 x1 x2 x3 x4 : FVec Ideal S512x64 .f32) (re im : FVec Ideal S1x32x64 .f32) (ldt : FVec Ideal S1x32 .f32) (br bi : FVec Ideal S1x32x64x16 .f32)
  (h0 : ∀ (g : Fin 32) (p : Fin 16) (n : Fin 64), x0 (ix2 (chOf g p) n) = re (ix3 0 g n))
  (h1 : ∀ (g : Fin 32) (p : Fin 16) (n : Fin 64), x1 (ix2 (chOf g p) n) = im (ix3 0 g n))
  (h2 : ∀ (g : Fin 32) (p : Fin 16) (n : Fin 64), x2 (ix2 (chOf g p) n) = ldt (ix2 0 g))
  (h3 : ∀ (g : Fin 32) (p : Fin 16) (n : Fin 64), x3 (ix2 (chOf g p) n) = br (ix4 0 g n p))
  (h4 : ∀ (g : Fin 32) (p : Fin 16) (n : Fin 64), x4 (ix2 (chOf g p) n) = bi (ix4 0 g n p))
  (hh : Nat) (hq : hh < 2)
include h0 h1 h2

/-- The state matrix's row block holds the reference's state matrix, the same on its eight rows. -/
theorem groupCols_abarR (b : Fin 8) (j : Fin 1024) : groupCols (KernelIdeal.S5.abarR x0 x1 x2) (ix2 b (halfCol hh hq j))
    = ReferenceIdeal.S5.abarR re im ldt (ix2 (gOf hh hq j) (nOf j)) := by
  rw [groupCols_apply, ← abarR_row x0 x1 x2 re im ldt h0 h1 h2 (gOf hh hq j) ⟨b, by omega⟩ (nOf j)]
  exact congrArg _ (congrArg₂ ix2 (Fin.ext (show 16 * ((1024 * hh + j.val) / 64) + b.val = 16 * (16 * hh + j.val / 64) + b.val by omega)) (Fin.ext (show (1024 * hh + j.val) % 64 = j.val % 64 by omega)))
theorem groupCols_abarI (b : Fin 8) (j : Fin 1024) : groupCols (KernelIdeal.S5.abarI x0 x1 x2) (ix2 b (halfCol hh hq j))
    = ReferenceIdeal.S5.abarI re im ldt (ix2 (gOf hh hq j) (nOf j)) := by
  rw [groupCols_apply, ← abarI_row x0 x1 x2 re im ldt h0 h1 h2 (gOf hh hq j) ⟨b, by omega⟩ (nOf j)]
  exact congrArg _ (congrArg₂ ix2 (Fin.ext (show 16 * ((1024 * hh + j.val) / 64) + b.val = 16 * (16 * hh + j.val / 64) + b.val by omega)) (Fin.ext (show (1024 * hh + j.val) % 64 = j.val % 64 by omega)))

include h3 h4
/-- The input matrix of a half, real parts. -/
theorem inMat_R (hs : Shape.Slices S512x64 ![256 * hh, 0] S256x64) (k : Fin 256) (j : Fin 1024) : inMat x0 x1 x2 x3 x4 (256 * hh) hs (ix2 k (leftCol j))
    = if k.val / 16 = j.val / 64 then ReferenceIdeal.S5.bbarR re im ldt br bi (ix3 (gOf hh hq j) (nOf j) (pOf k.val)) else (0 : EReal) := by
  unfold inMat
  rw [besides_left, KernelIdeal.S5.inPart_apply _ _ _ _ _ (by omega)]
  refine if_ctx_congr Iff.rfl (fun e => ?_) fun _ => rfl
  rw [← bbarR_row x0 x1 x2 x3 x4 re im ldt br bi h0 h1 h2 h3 h4 (gOf hh hq j) (pOf k.val) (nOf j)]
  exact congrArg _ (congrArg₂ ix2 (Fin.ext (show 256 * hh + k.val = 16 * (16 * hh + j.val / 64) + k.val % 16 by omega)) rfl)
/-- The input matrix of a half, imaginary parts. -/
theorem inMat_I (hs : Shape.Slices S512x64 ![256 * hh, 0] S256x64) (k : Fin 256) (j : Fin 1024) : inMat x0 x1 x2 x3 x4 (256 * hh) hs (ix2 k (rightCol j))
    = if k.val / 16 = j.val / 64 then ReferenceIdeal.S5.bbarI re im ldt br bi (ix3 (gOf hh hq j) (nOf j) (pOf k.val)) else (0 : EReal) := by
  unfold inMat
  rw [besides_right, KernelIdeal.S5.inPart_apply _ _ _ _ _ (by omega)]
  refine if_ctx_congr Iff.rfl (fun e => ?_) fun _ => rfl
  rw [← bbarI_row x0 x1 x2 x3 x4 re im ldt br bi h0 h1 h2 h3 h4 (gOf hh hq j) (pOf k.val) (nOf j)]
  exact congrArg _ (congrArg₂ ix2 (Fin.ext (show 256 * hh + k.val = 16 * (16 * hh + j.val / 64) + k.val % 16 by omega)) rfl)
end

/-- The input's rows, time first, at an entry. -/
theorem inRows_apply (U : FVec Ideal S8x128x512 .f32) (t : Fin 128) (b : Fin 8) (d : Fin 512) : inRows U (ix2 (rowOf t t.isLt b) d) = U (ix3 b t d) := by
  pointwise [inRows]
  exact congrArg U (by rw [show (⟨(8 * t.val + b.val) % 8, by omega⟩ : Fin 8) = b from Fin.ext (by show (8 * t.val + b.val) % 8 = b.val; omega),
    show (⟨(8 * t.val + b.val) / 8, by omega⟩ : Fin 128) = t from Fin.ext (by show (8 * t.val + b.val) / 8 = t.val; omega)])

/-- One half's product at an entry. -/
theorem buLo_apply (U : FVec Ideal S8x128x512 .f32) (B : FVec Ideal S256x2048 .bf16) (t : Fin 128) (b : Fin 8) (z : Fin 2048) :
    buLo U B (ix2 (rowOf t t.isLt b) z) = ∑ k : Fin 256, (U (ix3 b t (halfCh 0 (by omega) k)) * B (ix2 k z) : EReal) := by
  have h := inRows_apply U t b
  pointwise [buLo]
  refine Finset.sum_congr rfl fun k _ => ?_
  rw [show (⟨k.val, by omega⟩ : Fin 512) = halfCh 0 (by omega) k from Fin.ext (by show k.val = 256 * 0 + k.val; omega)]
theorem buHi_apply (U : FVec Ideal S8x128x512 .f32) (B : FVec Ideal S256x2048 .bf16) (t : Fin 128) (b : Fin 8) (z : Fin 2048) :
    buHi U B (ix2 (rowOf t t.isLt b) z) = ∑ k : Fin 256, (U (ix3 b t (halfCh 1 (by omega) k)) * B (ix2 k z) : EReal) := by
  have h := inRows_apply U t b
  pointwise [buHi]

end Cert.S5

end
-- ==== Proof.S5.Half.lean ====
/- One half's scan at one grid point, against the reference's states. -/
module

public import proofs.«01_k».proof.Proof.S5.Drive

@[expose] public section

set_option maxRecDepth 16384

noncomputable section

open Idealize.ShloMosaic Idealize.ShloMosaic.TcCoe Idealize.SL.Sem
open Idealize.ShloMosaic.VecWindow (window put)

namespace Cert.S5

open Cert.KernelIdeal (S512x64 S2048x16 S256x64 S1024x16 S256x1024 S1024x256 S256x2048 S2048x256 S8x128x512 S1024x512 S1024x2048 S1024x4096 S8x2048 S8x1024 S8x4096)
open Cert.ReferenceIdeal (S1x32x64 S1x32 S1x32x64x16 S1x32x16x64 S32x64 S32x64x16 S8x2048x512 S2048x8x32x64 S32x16x64 S8x32x64)
open Cert.KernelIdeal.S5 hiding abarR abarI den coefR coefI bbarR bbarI

/-- Time step `t` of chunk `T`. -/
abbrev timeOf (T : Nat) (hT : T < 16) (t : Nat) (ht : t < 128) : Fin 2048 := ⟨128 * T + t, by omega⟩

/-- The group of channel `q` of half `hh`. -/
abbrev gQ (hh : Nat) (hq : hh < 2) (q : Fin 256) : Fin 32 := ⟨16 * hh + q.val / 16, by omega⟩

section
variable (aR aI : FVec Ideal S32x64 .f32) (bR bI : FVec Ideal S2048x8x32x64 .f32) (SR SI : Nat → FVec Ideal S8x32x64 .f32)
  (hSR : ∀ (k : Fin 2048) (b : Fin 8) (g : Fin 32) (n : Fin 64), SR (k + 1) (ix3 b g n) = (aR (ix2 g n) * SR k (ix3 b g n) - aI (ix2 g n) * SI k (ix3 b g n) + bR (ix4 k b g n) : EReal))
  (hSI : ∀ (k : Fin 2048) (b : Fin 8) (g : Fin 32) (n : Fin 64), SI (k + 1) (ix3 b g n) = (aR (ix2 g n) * SI k (ix3 b g n) + aI (ix2 g n) * SR k (ix3 b g n) + bI (ix4 k b g n) : EReal))
  (T : Nat) (hT : T < 16) (hh : Nat) (hq : hh < 2) (ca cr ci : Nat) (ha : ca + 1024 ≤ 2048) (hr : cr + 1024 ≤ 4096) (hi : ci + 1024 ≤ 4096)
  (eca : ca = 1024 * hh) (hd : cr + 1024 ≤ ci)
  (A6 A7 : FVec Ideal S8x2048 .f32) (X : FVec Ideal S1024x4096 .f32) (S : FVec Ideal S8x4096 .f32)
  (h6 : ∀ b j, A6 (ix2 b (halfCol hh hq j)) = aR (ix2 (gOf hh hq j) (nOf j)))
  (h7 : ∀ b j, A7 (ix2 b (halfCol hh hq j)) = aI (ix2 (gOf hh hq j) (nOf j)))
  (hXr : ∀ (t : Nat) (ht : t < 128) (b : Fin 8) (j : Fin 1024), X (ix2 (rowOf t ht b) (colOf cr hr j)) = bR (ix4 (timeOf T hT t ht) b (gOf hh hq j) (nOf j)))
  (hXi : ∀ (t : Nat) (ht : t < 128) (b : Fin 8) (j : Fin 1024), X (ix2 (rowOf t ht b) (colOf ci hi j)) = bI (ix4 (timeOf T hT t ht) b (gOf hh hq j) (nOf j)))
  (hSr : ∀ (b : Fin 8) (j : Fin 1024), S (ix2 b (colOf cr hr j)) = SR (128 * T) (ix3 b (gOf hh hq j) (nOf j)))
  (hSi : ∀ (b : Fin 8) (j : Fin 1024), S (ix2 b (colOf ci hi j)) = SI (128 * T) (ix3 b (gOf hh hq j) (nOf j)))
include hSR hSI hT eca hd h6 h7 hXr hXi hSr hSi

/-- The scan of one half leaves the reference's states in its columns and touches no others. -/
theorem half_scan :
    (∀ b j, (halfScan A6 A7 ca cr ci ha hr hi X S).2.1 (ix2 b j) = SR (128 * T + 128) (ix3 b (gOf hh hq j) (nOf j))) ∧
    (∀ b j, (halfScan A6 A7 ca cr ci ha hr hi X S).2.2 (ix2 b j) = SI (128 * T + 128) (ix3 b (gOf hh hq j) (nOf j))) ∧
    (∀ (t : Nat) (ht : t < 128) (b : Fin 8) (j : Fin 1024),
      (halfScan A6 A7 ca cr ci ha hr hi X S).1 (ix2 (rowOf t ht b) (colOf cr hr j)) = SR (128 * T + (t + 1)) (ix3 b (gOf hh hq j) (nOf j)) ∧
      (halfScan A6 A7 ca cr ci ha hr hi X S).1 (ix2 (rowOf t ht b) (colOf ci hi j)) = SI (128 * T + (t + 1)) (ix3 b (gOf hh hq j) (nOf j))) ∧
    (∀ (y : Fin 1024) (z : Fin 4096), (z.val < cr ∨ cr + 1024 ≤ z.val) → (z.val < ci ∨ ci + 1024 ≤ z.val) →
      (halfScan A6 A7 ca cr ci ha hr hi X S).1 (ix2 y z) = X (ix2 y z)) := by
  have c6 : ∀ b j, cols A6 ca ha (ix2 b j) = aR (ix2 (gOf hh hq j) (nOf j)) := fun b j => by
    subst eca
    rw [← h6 b j]
    refine (window_ix2 A6 0 (1024 * hh) _ b j (by omega) (by omega)).trans (congrArg A6 (congrArg₂ ix2 (Fin.ext (Nat.zero_add _)) rfl))
  have c7 : ∀ b j, cols A7 ca ha (ix2 b j) = aI (ix2 (gOf hh hq j) (nOf j)) := fun b j => by
    subst eca
    rw [← h7 b j]
    refine (window_ix2 A7 0 (1024 * hh) _ b j (by omega) (by omega)).trans (congrArg A7 (congrArg₂ ix2 (Fin.ext (Nat.zero_add _)) rfl))
  have cS : ∀ (q : Nat) (hqq : q + 1024 ≤ 4096) (b : Fin 8) (j : Fin 1024), stcols S q hqq (ix2 b j) = S (ix2 b (colOf q hqq j)) := fun q hqq b j =>
    (window_ix2 S 0 q _ b j (by omega) (by omega)).trans (congrArg S (congrArg₂ ix2 (Fin.ext (Nat.zero_add _)) rfl))
  obtain ⟨p1, p2, p3, p4⟩ := scan_spec cr ci hr hi hd (cols A6 ca ha) (cols A7 ca ha) X
    (fun t b j => SR (128 * T + t) (ix3 b (gOf hh hq j) (nOf j))) (fun t b j => SI (128 * T + t) (ix3 b (gOf hh hq j) (nOf j)))
    (fun t ht b j => by rw [c6, c7, hXr t ht]; exact hSR (timeOf T hT t ht) b _ _)
    (fun t ht b j => by rw [c6, c7, hXi t ht]; exact hSI (timeOf T hT t ht) b _ _)
    128 (Nat.le_refl _) X (stcols S cr hr) (stcols S ci hi) (fun _ _ _ => rfl)
    (fun b j => by rw [cS, hSr]; rfl) (fun b j => by rw [cS, hSi]; rfl)
  exact ⟨p1, p2, fun t ht b j => p3 t ht b j (by omega), fun y z h1 h2 => p4 y z (Or.inr ⟨h1, h2⟩)⟩

/-- So do the kept states. -/
theorem half_state :
    (∀ (b : Fin 8) (j : Fin 1024), halfState A6 A7 ca cr ci ha hr hi X S (ix2 b (colOf cr hr j)) = SR (128 * (T + 1)) (ix3 b (gOf hh hq j) (nOf j))) ∧
    (∀ (b : Fin 8) (j : Fin 1024), halfState A6 A7 ca cr ci ha hr hi X S (ix2 b (colOf ci hi j)) = SI (128 * (T + 1)) (ix3 b (gOf hh hq j) (nOf j))) ∧
    (∀ (b : Fin 8) (z : Fin 4096), (z.val < cr ∨ cr + 1024 ≤ z.val) → (z.val < ci ∨ ci + 1024 ≤ z.val) →
      halfState A6 A7 ca cr ci ha hr hi X S (ix2 b z) = S (ix2 b z)) := by
  obtain ⟨p1, p2, _, _⟩ := half_scan aR aI bR bI SR SI hSR hSI T hT hh hq ca cr ci ha hr hi eca hd A6 A7 X S h6 h7 hXr hXi hSr hSi
  have e : 128 * (T + 1) = 128 * T + 128 := by omega
  rw [e]
  refine ⟨fun b j => ?_, fun b j => ?_, fun b z h1 h2 => ?_⟩
  · refine (put_ix2_out _ _ _ _ _ _ (Or.inr (Or.inr (Or.inl (show cr + j.val < ci by omega))))).trans ?_
    exact (put_ix2_in _ _ _ _ b j _ _ (Nat.zero_add _).symm rfl).trans (p1 b j)
  · exact (put_ix2_in _ _ _ _ b j _ _ (Nat.zero_add _).symm rfl).trans (p2 b j)
  · exact (put_ix2_out _ _ _ _ _ _ (by omega)).trans (put_ix2_out _ _ _ _ _ _ (by omega))
end

/-- A product with a half's output matrix is the readout of the half's groups. -/
theorem block_readout (sr si : FVec Ideal S2048x8x32x64 .f32) (cR cI : FVec Ideal S32x16x64 .f32) (τ : Fin 2048) (b : Fin 8) (hh : Nat) (hq : hh < 2) (q : Fin 256)
    (Y : Fin 2048 → EReal) (C : Fin 2048 → EReal)
    (hYr : ∀ j : Fin 1024, Y (leftCol j) = sr (ix4 τ b (gOf hh hq j) (nOf j)))
    (hYi : ∀ j : Fin 1024, Y (rightCol j) = si (ix4 τ b (gOf hh hq j) (nOf j)))
    (hCr : ∀ k : Fin 1024, C (leftCol k) = if k.val / 64 = q.val / 16 then cR (ix3 (gQ hh hq q) (pOf q.val) (nOf k)) else 0)
    (hCi : ∀ k : Fin 1024, C (rightCol k) = if k.val / 64 = q.val / 16 then cI (ix3 (gQ hh hq q) (pOf q.val) (nOf k)) else 0) :
    (∑ k : Fin 2048, Y k * C k) = ReferenceIdeal.S5.readout sr cR (ix4 b τ (gQ hh hq q) (pOf q.val))
      + ReferenceIdeal.S5.readout si cI (ix4 b τ (gQ hh hq q) (pOf q.val)) := by
  have hsum : (∑ k : Fin 2048, Y k * C k) = (∑ k : Fin 1024, Y (leftCol k) * C (leftCol k)) + ∑ k : Fin 1024, Y (rightCol k) * C (rightCol k) :=
    Fin.sum_univ_add (a := 1024) (b := 1024) (fun k : Fin 2048 => Y k * C k)
  have hn : ∀ n : Fin 64, nOf (inBlock (N := 1024) (q.val / 16) (by omega) n) = n := fun n => Fin.ext (by show (64 * (q.val / 16) + n.val) % 64 = n.val; omega)
  have hg : ∀ n : Fin 64, gOf hh hq (inBlock (N := 1024) (q.val / 16) (by omega) n) = gQ hh hq q := fun n =>
    Fin.ext (by show 16 * hh + (64 * (q.val / 16) + n.val) / 64 = 16 * hh + q.val / 16; omega)
  rw [hsum]
  refine congrArg₂ (· + ·) ?_ ?_
  · refine Eq.trans ?_ (readout_apply sr cR τ b _ _).symm
    simp only [hCr, hYr]
    refine (sum_block (by omega) (q.val / 16) (by omega) (fun k : Fin 1024 => sr (ix4 τ b (gOf hh hq k) (nOf k))) (fun k => cR (ix3 (gQ hh hq q) (pOf q.val) (nOf k)))).trans ?_
    refine Finset.sum_congr rfl fun n _ => ?_
    simp only [hn, hg]
  · refine Eq.trans ?_ (readout_apply si cI τ b _ _).symm
    simp only [hCi, hYi]
    refine (sum_block (by omega) (q.val / 16) (by omega) (fun k : Fin 1024 => si (ix4 τ b (gOf hh hq k) (nOf k))) (fun k => cI (ix3 (gQ hh hq q) (pOf q.val) (nOf k)))).trans ?_
    refine Finset.sum_congr rfl fun n _ => ?_
    simp only [hn, hg]

end Cert.S5

end
-- ==== Proof.S5.PointVal.lean ====
/- One grid point's scans and products, against the reference's states. -/
module

public import proofs.«01_k».proof.Proof.S5.Half
public import proofs.«01_k».proof.Proof.S5.Body

@[expose] public section

set_option maxRecDepth 16384

noncomputable section

open Idealize.ShloMosaic Idealize.ShloMosaic.TcCoe Idealize.SL.Sem
open Idealize.ShloMosaic.VecWindow (window put)

namespace Cert.S5

open Cert.KernelIdeal (S512x64 S2048x16 S256x64 S1024x16 S256x1024 S1024x256 S256x2048 S2048x256 S8x128x512 S1024x512 S1024x2048 S1024x4096 S8x2048 S8x1024 S8x4096)
open Cert.ReferenceIdeal (S1x32x64 S1x32 S1x32x64x16 S1x32x16x64 S32x64 S32x64x16 S8x2048x512 S2048x8x32x64 S32x16x64 S8x32x64)
open Cert.KernelIdeal.S5 hiding abarR abarI den coefR coefI bbarR bbarI
open Cert.ReferenceIdeal.S5 (drive readout)

/-- The columns of the kept state. -/
abbrev col0 (j : Fin 1024) : Fin 4096 := colOf 0 (by decide) j
abbrev col1 (j : Fin 1024) : Fin 4096 := colOf 1024 (by decide) j
abbrev col2 (j : Fin 1024) : Fin 4096 := colOf 2048 (by decide) j
abbrev col3 (j : Fin 1024) : Fin 4096 := colOf 3072 (by decide) j
/-- A column's group in the first and the second half. -/
abbrev gLo (j : Fin 1024) : Fin 32 := gOf 0 (by decide) j
abbrev gHi (j : Fin 1024) : Fin 32 := gOf 1 (by decide) j
abbrev qLo (q : Fin 256) : Fin 32 := gQ 0 (by decide) q
abbrev qHi (q : Fin 256) : Fin 32 := gQ 1 (by decide) q

/-- Column `k` of the 2048 that begin at `q`. -/
abbrev winCol (q : Nat) (hq : q + 2048 ≤ 4096) (k : Fin 2048) : Fin 4096 := ⟨q + k, by omega⟩

/-- One half's product, entry by entry. -/
theorem halfOut_apply (A6 A7 : FVec Ideal S8x2048 .f32) (C : FVec Ideal S2048x256 .bf16) (ca cr ci : Nat) (ha : ca + 1024 ≤ 2048) (hr : cr + 1024 ≤ 4096)
    (hi : ci + 1024 ≤ 4096) (hb : cr + 2048 ≤ 4096) (X : FVec Ideal S1024x4096 .f32) (S : FVec Ideal S8x4096 .f32) (y : Fin 1024) (q : Fin 256) :
    halfOut A6 A7 C ca cr ci ha hr hi hb X S (ix2 y q)
      = ∑ k : Fin 2048, ((halfScan A6 A7 ca cr ci ha hr hi X S).1 (ix2 y (winCol cr hb k)) * C (ix2 k q) : EReal) := by
  pointwise [halfOut]
  refine Finset.sum_congr rfl fun k _ => congrArg (· * C (ix2 k q)) ?_
  exact (window_ix2 _ 0 cr _ y k (by omega) (by omega)).trans (congrArg _ (congrArg₂ ix2 (Fin.ext (Nat.zero_add _)) rfl))

/-- The kept state holds the states `sr` and `si`. -/
structure Packed (S : FVec Ideal S8x4096 .f32) (sr si : FVec Ideal S8x32x64 .f32) : Prop where
  loR : ∀ b j, S (ix2 b (col0 j)) = sr (ix3 b (gLo j) (nOf j))
  loI : ∀ b j, S (ix2 b (col1 j)) = si (ix3 b (gLo j) (nOf j))
  hiR : ∀ b j, S (ix2 b (col2 j)) = sr (ix3 b (gHi j) (nOf j))
  hiI : ∀ b j, S (ix2 b (col3 j)) = si (ix3 b (gHi j) (nOf j))

/-- An input matrix of one half, block-diagonal in the reference's. -/
def InBlocks (hh : Nat) (hq : hh < 2) (B : FVec Ideal S256x2048 .bf16) (bbR bbI : FVec Ideal S32x64x16 .f32) : Prop :=
  (∀ k j, B (ix2 k (leftCol j)) = if k.val / 16 = j.val / 64 then bbR (ix3 (gOf hh hq j) (nOf j) (pOf k.val)) else (0 : EReal)) ∧
  (∀ k j, B (ix2 k (rightCol j)) = if k.val / 16 = j.val / 64 then bbI (ix3 (gOf hh hq j) (nOf j) (pOf k.val)) else (0 : EReal))

/-- An output matrix of one half, block-diagonal in the reference's. -/
def OutBlocks (hh : Nat) (hq : hh < 2) (C : FVec Ideal S2048x256 .bf16) (cR cI : FVec Ideal S32x16x64 .f32) : Prop :=
  (∀ k q, C (ix2 (leftCol k) q) = if k.val / 64 = q.val / 16 then cR (ix3 (gQ hh hq q) (pOf q.val) (nOf k)) else (0 : EReal)) ∧
  (∀ k q, C (ix2 (rightCol k) q) = if k.val / 64 = q.val / 16 then cI (ix3 (gQ hh hq q) (pOf q.val) (nOf k)) else (0 : EReal))

section
variable (u : FVec Ideal S8x2048x512 .f32) (bbR bbI : FVec Ideal S32x64x16 .f32) (T : Nat) (hT : T < 16)
  (U : FVec Ideal S8x128x512 .f32) (B2 B3 : FVec Ideal S256x2048 .bf16)
  (hU : ∀ (b : Fin 8) (t : Fin 128) (d : Fin 512), U (ix3 b t d) = u (ix3 b (timeOf T hT t.val t.isLt) d))
  (hB2 : InBlocks 0 (by decide) B2 bbR bbI) (hB3 : InBlocks 1 (by decide) B3 bbR bbI)
include hU hB2 hB3

/-- The scratch array holds what drives the states when the scans begin. -/
theorem scr0_drive (t : Nat) (ht : t < 128) (b : Fin 8) (j : Fin 1024) :
    scr0 U B2 B3 (ix2 (rowOf t ht b) (col0 j)) = drive u bbR (ix4 (timeOf T hT t ht) b (gLo j) (nOf j)) ∧
    scr0 U B2 B3 (ix2 (rowOf t ht b) (col1 j)) = drive u bbI (ix4 (timeOf T hT t ht) b (gLo j) (nOf j)) ∧
    scr0 U B2 B3 (ix2 (rowOf t ht b) (col2 j)) = drive u bbR (ix4 (timeOf T hT t ht) b (gHi j) (nOf j)) ∧
    scr0 U B2 B3 (ix2 (rowOf t ht b) (col3 j)) = drive u bbI (ix4 (timeOf T hT t ht) b (gHi j) (nOf j)) := by
  unfold scr0
  refine ⟨?_, ?_, ?_, ?_⟩
  · refine (put_ix2_out _ _ _ _ _ _ (Or.inr (Or.inr (Or.inl (show 0 + j.val < 2048 by omega))))).trans ?_
    refine (put_ix2_in _ _ _ _ (rowOf t ht b) (leftCol j) _ _ (Nat.zero_add _).symm rfl).trans ?_
    refine (buLo_apply U B2 ⟨t, ht⟩ b _).trans ?_
    simp only [hU, hB2.1]
    exact block_drive u bbR _ b 0 (by decide) j
  · refine (put_ix2_out _ _ _ _ _ _ (Or.inr (Or.inr (Or.inl (show 1024 + j.val < 2048 by omega))))).trans ?_
    refine (put_ix2_in _ _ _ _ (rowOf t ht b) (rightCol j) _ _ (Nat.zero_add _).symm (show 1024 + j.val = 0 + (1024 + j.val) by omega)).trans ?_
    refine (buLo_apply U B2 ⟨t, ht⟩ b _).trans ?_
    simp only [hU, hB2.2]
    exact block_drive u bbI _ b 0 (by decide) j
  · refine (put_ix2_in _ _ _ _ (rowOf t ht b) (leftCol j) _ _ (Nat.zero_add _).symm rfl).trans ?_
    refine (buHi_apply U B3 ⟨t, ht⟩ b _).trans ?_
    simp only [hU, hB3.1]
    exact block_drive u bbR _ b 1 (by decide) j
  · refine (put_ix2_in _ _ _ _ (rowOf t ht b) (rightCol j) _ _ (Nat.zero_add _).symm (show 3072 + j.val = 2048 + (1024 + j.val) by omega)).trans ?_
    refine (buHi_apply U B3 ⟨t, ht⟩ b _).trans ?_
    simp only [hU, hB3.2]
    exact block_drive u bbI _ b 1 (by decide) j

variable (aR aI : FVec Ideal S32x64 .f32) (SR SI : Nat → FVec Ideal S8x32x64 .f32)
  (hSR : ∀ (k : Fin 2048) (b : Fin 8) (g : Fin 32) (n : Fin 64), SR (k + 1) (ix3 b g n) = (aR (ix2 g n) * SR k (ix3 b g n) - aI (ix2 g n) * SI k (ix3 b g n) + drive u bbR (ix4 k b g n) : EReal))
  (hSI : ∀ (k : Fin 2048) (b : Fin 8) (g : Fin 32) (n : Fin 64), SI (k + 1) (ix3 b g n) = (aR (ix2 g n) * SI k (ix3 b g n) + aI (ix2 g n) * SR k (ix3 b g n) + drive u bbI (ix4 k b g n) : EReal))
  (A6 A7 : FVec Ideal S8x2048 .f32) (S : FVec Ideal S8x4096 .f32)
  (h6 : ∀ hh hq b j, A6 (ix2 b (halfCol hh hq j)) = aR (ix2 (gOf hh hq j) (nOf j)))
  (h7 : ∀ hh hq b j, A7 (ix2 b (halfCol hh hq j)) = aI (ix2 (gOf hh hq j) (nOf j)))
  (hS : Packed S (SR (128 * T)) (SI (128 * T)))
include hSR hSI h6 h7 hS

/-- After the first half's scan the second half's columns and kept state are as before. -/
theorem scr1_hi (t : Nat) (ht : t < 128) (b : Fin 8) (j : Fin 1024) :
    scr1 U B2 B3 A6 A7 S (ix2 (rowOf t ht b) (col2 j)) = drive u bbR (ix4 (timeOf T hT t ht) b (gHi j) (nOf j)) ∧
    scr1 U B2 B3 A6 A7 S (ix2 (rowOf t ht b) (col3 j)) = drive u bbI (ix4 (timeOf T hT t ht) b (gHi j) (nOf j)) := by
  have hx := scr0_drive u bbR bbI T hT U B2 B3 hU hB2 hB3
  obtain ⟨_, _, _, p4⟩ := half_scan aR aI _ _ SR SI hSR hSI T hT 0 (by decide) 0 0 1024 (by decide) (by decide) (by decide) rfl (by decide) A6 A7 (scr0 U B2 B3) S
    (h6 0 (by decide)) (h7 0 (by decide)) (fun t ht b j => (hx t ht b j).1) (fun t ht b j => (hx t ht b j).2.1) hS.loR hS.loI
  exact ⟨(p4 _ _ (Or.inr (show 0 + 1024 ≤ 2048 + j.val by omega)) (Or.inr (show 1024 + 1024 ≤ 2048 + j.val by omega))).trans (hx t ht b j).2.2.1,
    (p4 _ _ (Or.inr (show 0 + 1024 ≤ 3072 + j.val by omega)) (Or.inr (show 1024 + 1024 ≤ 3072 + j.val by omega))).trans (hx t ht b j).2.2.2⟩

/-- What the first half's scan leaves in the kept state. -/
theorem state1_all :
    (∀ b j, state1 U B2 B3 A6 A7 S (ix2 b (col0 j)) = SR (128 * (T + 1)) (ix3 b (gLo j) (nOf j))) ∧
    (∀ b j, state1 U B2 B3 A6 A7 S (ix2 b (col1 j)) = SI (128 * (T + 1)) (ix3 b (gLo j) (nOf j))) ∧
    (∀ b j, state1 U B2 B3 A6 A7 S (ix2 b (col2 j)) = SR (128 * T) (ix3 b (gHi j) (nOf j))) ∧
    (∀ b j, state1 U B2 B3 A6 A7 S (ix2 b (col3 j)) = SI (128 * T) (ix3 b (gHi j) (nOf j))) := by
  have hx := scr0_drive u bbR bbI T hT U B2 B3 hU hB2 hB3
  obtain ⟨p1, p2, p3⟩ := half_state aR aI _ _ SR SI hSR hSI T hT 0 (by decide) 0 0 1024 (by decide) (by decide) (by decide) rfl (by decide) A6 A7 (scr0 U B2 B3) S
    (h6 0 (by decide)) (h7 0 (by decide)) (fun t ht b j => (hx t ht b j).1) (fun t ht b j => (hx t ht b j).2.1) hS.loR hS.loI
  exact ⟨p1, p2,
    fun b j => (p3 b _ (Or.inr (show 0 + 1024 ≤ 2048 + j.val by omega)) (Or.inr (show 1024 + 1024 ≤ 2048 + j.val by omega))).trans (hS.hiR b j),
    fun b j => (p3 b _ (Or.inr (show 0 + 1024 ≤ 3072 + j.val by omega)) (Or.inr (show 1024 + 1024 ≤ 3072 + j.val by omega))).trans (hS.hiI b j)⟩

/-- A grid point takes the reference's states 128 steps on. -/
theorem point_packed : Packed (pointState U B2 B3 A6 A7 S) (SR (128 * (T + 1))) (SI (128 * (T + 1))) := by
  have hx := scr1_hi u bbR bbI T hT U B2 B3 hU hB2 hB3 aR aI SR SI hSR hSI A6 A7 S h6 h7 hS
  obtain ⟨s0, s1, s2, s3⟩ := state1_all u bbR bbI T hT U B2 B3 hU hB2 hB3 aR aI SR SI hSR hSI A6 A7 S h6 h7 hS
  obtain ⟨p1, p2, p3⟩ := half_state aR aI _ _ SR SI hSR hSI T hT 1 (by decide) 1024 2048 3072 (by decide) (by decide) (by decide) rfl (by decide) A6 A7
    (scr1 U B2 B3 A6 A7 S) (state1 U B2 B3 A6 A7 S)
    (h6 1 (by decide)) (h7 1 (by decide)) (fun t ht b j => (hx t ht b j).1) (fun t ht b j => (hx t ht b j).2) s2 s3
  exact ⟨fun b j => (p3 b _ (Or.inl (show 0 + j.val < 2048 by omega)) (Or.inl (show 0 + j.val < 3072 by omega))).trans (s0 b j),
    fun b j => (p3 b _ (Or.inl (show 1024 + j.val < 2048 by omega)) (Or.inl (show 1024 + j.val < 3072 by omega))).trans (s1 b j), p1, p2⟩

variable (sr si : FVec Ideal S2048x8x32x64 .f32) (cR cI : FVec Ideal S32x16x64 .f32) (C4 C5 : FVec Ideal S2048x256 .bf16)
  (hsr : ∀ (l : Fin 2048) (b : Fin 8) (g : Fin 32) (n : Fin 64), sr (ix4 l b g n) = SR (l + 1) (ix3 b g n))
  (hsi : ∀ (l : Fin 2048) (b : Fin 8) (g : Fin 32) (n : Fin 64), si (ix4 l b g n) = SI (l + 1) (ix3 b g n))
include hsr hsi

/-- The first half's product is the reference's readout of its groups. -/
theorem yLo_readout (hC4 : OutBlocks 0 (by decide) C4 cR cI) (t : Nat) (ht : t < 128) (b : Fin 8) (q : Fin 256) : yLo U B2 B3 C4 A6 A7 S (ix2 (rowOf t ht b) q)
    = (readout sr cR (ix4 b (timeOf T hT t ht) (qLo q) (pOf q.val)) + readout si cI (ix4 b (timeOf T hT t ht) (qLo q) (pOf q.val)) : EReal) := by
  have hx := scr0_drive u bbR bbI T hT U B2 B3 hU hB2 hB3
  obtain ⟨_, _, p3, _⟩ := half_scan aR aI _ _ SR SI hSR hSI T hT 0 (by decide) 0 0 1024 (by decide) (by decide) (by decide) rfl (by decide) A6 A7 (scr0 U B2 B3) S
    (h6 0 (by decide)) (h7 0 (by decide)) (fun t ht b j => (hx t ht b j).1) (fun t ht b j => (hx t ht b j).2.1) hS.loR hS.loI
  refine (halfOut_apply A6 A7 C4 0 0 1024 _ _ _ (by decide) _ S _ q).trans (block_readout sr si cR cI (timeOf T hT t ht) b 0 (by decide) q
    (fun k => (halfScan A6 A7 0 0 1024 (by decide) (by decide) (by decide) (scr0 U B2 B3) S).1 (ix2 (rowOf t ht b) (winCol 0 (by decide) k))) (fun k => C4 (ix2 k q))
    (fun j => (p3 t ht b j).1.trans (by rw [hsr]; rfl))
    (fun j => (congrArg _ (congrArg (ix2 (rowOf t ht b)) (Fin.ext (show 0 + (1024 + j.val) = 1024 + j.val by omega)))).trans ((p3 t ht b j).2.trans (by rw [hsi]; rfl)))
    (fun k => hC4.1 k q) (fun k => hC4.2 k q))

/-- The second half's product is the reference's readout of its groups. -/
theorem yHi_readout (hC5 : OutBlocks 1 (by decide) C5 cR cI) (t : Nat) (ht : t < 128) (b : Fin 8) (q : Fin 256) : yHi U B2 B3 C5 A6 A7 S (ix2 (rowOf t ht b) q)
    = (readout sr cR (ix4 b (timeOf T hT t ht) (qHi q) (pOf q.val)) + readout si cI (ix4 b (timeOf T hT t ht) (qHi q) (pOf q.val)) : EReal) := by
  have hx := scr1_hi u bbR bbI T hT U B2 B3 hU hB2 hB3 aR aI SR SI hSR hSI A6 A7 S h6 h7 hS
  obtain ⟨s0, s1, s2, s3⟩ := state1_all u bbR bbI T hT U B2 B3 hU hB2 hB3 aR aI SR SI hSR hSI A6 A7 S h6 h7 hS
  obtain ⟨_, _, p3, _⟩ := half_scan aR aI _ _ SR SI hSR hSI T hT 1 (by decide) 1024 2048 3072 (by decide) (by decide) (by decide) rfl (by decide) A6 A7
    (scr1 U B2 B3 A6 A7 S) (state1 U B2 B3 A6 A7 S)
    (h6 1 (by decide)) (h7 1 (by decide)) (fun t ht b j => (hx t ht b j).1) (fun t ht b j => (hx t ht b j).2) s2 s3
  refine (halfOut_apply A6 A7 C5 1024 2048 3072 _ _ _ (by decide) _ _ _ q).trans (block_readout sr si cR cI (timeOf T hT t ht) b 1 (by decide) q
    (fun k => (halfScan A6 A7 1024 2048 3072 (by decide) (by decide) (by decide) (scr1 U B2 B3 A6 A7 S) (state1 U B2 B3 A6 A7 S)).1 (ix2 (rowOf t ht b) (winCol 2048 (by decide) k))) (fun k => C5 (ix2 k q))
    (fun j => (p3 t ht b j).1.trans (by rw [hsr]; rfl))
    (fun j => (congrArg _ (congrArg (ix2 (rowOf t ht b)) (Fin.ext (show 2048 + (1024 + j.val) = 3072 + j.val by omega)))).trans ((p3 t ht b j).2.trans (by rw [hsi]; rfl)))
    (fun k => hC5.1 k q) (fun k => hC5.2 k q))
end

end Cert.S5

end
-- ==== Proof.S5.Blocks.lean ====
/- The tables that `s5_discretise` writes are block-diagonal in the reference's matrices. -/
module

public import proofs.«01_k».proof.Proof.S5.PointVal

@[expose] public section

set_option maxRecDepth 16384

noncomputable section

open Idealize.ShloMosaic Idealize.ShloMosaic.TcCoe Idealize.SL.Sem
open Idealize.ShloMosaic.VecWindow (window put)

namespace Cert.S5

open Cert.KernelIdeal (S512x64 S2048x16 S256x64 S1024x16 S256x1024 S1024x256 S256x2048 S2048x256 S8x128x512 S1024x512 S1024x2048 S1024x4096 S8x2048 S8x1024 S8x4096)
open Cert.ReferenceIdeal (S1x32x64 S1x32 S1x32x64x16 S1x32x16x64 S32x64 S32x64x16 S8x2048x512 S2048x8x32x64 S32x16x64 S8x32x64)
open Cert.KernelIdeal.S5 hiding abarR abarI den coefR coefI bbarR bbarI

/-- An input matrix's table. -/
theorem inMat_blocks (x0 x1 x2 x3 x4 : FVec Ideal S512x64 .f32) (re im : FVec Ideal S1x32x64 .f32) (ldt : FVec Ideal S1x32 .f32) (br bi : FVec Ideal S1x32x64x16 .f32)
    (h0 : ∀ (g : Fin 32) (p : Fin 16) (n : Fin 64), x0 (ix2 (chOf g p) n) = re (ix3 0 g n))
    (h1 : ∀ (g : Fin 32) (p : Fin 16) (n : Fin 64), x1 (ix2 (chOf g p) n) = im (ix3 0 g n))
    (h2 : ∀ (g : Fin 32) (p : Fin 16) (n : Fin 64), x2 (ix2 (chOf g p) n) = ldt (ix2 0 g))
    (h3 : ∀ (g : Fin 32) (p : Fin 16) (n : Fin 64), x3 (ix2 (chOf g p) n) = br (ix4 0 g n p))
    (h4 : ∀ (g : Fin 32) (p : Fin 16) (n : Fin 64), x4 (ix2 (chOf g p) n) = bi (ix4 0 g n p))
    (hh : Nat) (hq : hh < 2) (hs : Shape.Slices S512x64 ![256 * hh, 0] S256x64) :
    InBlocks hh hq (inMat x0 x1 x2 x3 x4 (256 * hh) hs) (ReferenceIdeal.S5.bbarR re im ldt br bi) (ReferenceIdeal.S5.bbarI re im ldt br bi) :=
  ⟨fun k j => inMat_R x0 x1 x2 x3 x4 re im ldt br bi h0 h1 h2 h3 h4 hh hq hs k j, fun k j => inMat_I x0 x1 x2 x3 x4 re im ldt br bi h0 h1 h2 h3 h4 hh hq hs k j⟩

/-- The output matrix without the layer's axis. -/
abbrev layC (x : FVec Ideal S1x32x16x64 .f32) : FVec Ideal S32x16x64 .f32 := shapeCast S32x16x64 x Cert.ReferenceIdeal.Facts₀.shapeCasts_S1x32x16x64_S32x16x64

/-- An output matrix's table. -/
theorem outMat_blocks (c5 c6 : FVec Ideal S2048x16 .f32) (cr ci : FVec Ideal S1x32x16x64 .f32)
    (h5 : ∀ (g : Fin 32) (p : Fin 16) (n : Fin 64), c5 (ix2 (stOf g n) p) = cr (ix4 0 g p n))
    (h6 : ∀ (g : Fin 32) (p : Fin 16) (n : Fin 64), c6 (ix2 (stOf g n) p) = ci (ix4 0 g p n))
    (hh : Nat) (hq : hh < 2) (hs : Shape.Slices S2048x16 ![1024 * hh, 0] S1024x16) :
    OutBlocks hh hq (outMat c5 c6 (1024 * hh) hs) (layC cr) (Host.negf (layC ci)) := by
  have e : ∀ (k : Fin 1024) (q : Fin 256), k.val / 64 = q.val / 16 → (⟨1024 * hh + k.val, by omega⟩ : Fin 2048) = stOf (gQ hh hq q) (nOf k) := fun k q h =>
    Fin.ext (by show 1024 * hh + k.val = 64 * (16 * hh + q.val / 16) + k.val % 64; omega)
  refine ⟨fun k q => ?_, fun k q => ?_⟩
  · refine (above_top _ _ k q).trans ((outPart_apply _ _ hs k q (by omega)).trans ?_)
    by_cases h : k.val / 64 = q.val / 16
    · rw [if_pos h, if_pos h, e k q h]
      pointwise [cRe, layC]
      exact h5 _ _ _
    · rw [if_neg h, if_neg h]
  · refine (above_bottom _ _ k q).trans ((outPart_apply _ _ hs k q (by omega)).trans ?_)
    by_cases h : k.val / 64 = q.val / 16
    · rw [if_pos h, if_pos h, e k q h]
      pointwise [cNegIm, layC]
      exact (congrArg (fun z : EReal => 0 - z) (h6 _ _ _)).trans (by rw [sub_eq_add_neg, zero_add])
    · rw [if_neg h, if_neg h]

end Cert.S5

end
-- ==== Proof.S5.Post.lean ====
/- What follows the scans, row by row: the skip, gelu, the gated linear unit and the projection, against the reference's. -/
module

public import proofs.«01_k».proof.Proof.S5.Blocks

@[expose] public section

set_option maxRecDepth 16384

noncomputable section

open Idealize.ShloMosaic Idealize.ShloMosaic.TcCoe Idealize.SL.Sem
open Idealize.ShloMosaic.VecWindow (window put)

namespace Cert.S5

open Cert.KernelIdeal (S512x64 S2048x16 S256x64 S1024x16 S256x1024 S1024x256 S256x2048 S2048x256 S8x128x512 S1024x512 S1024x2048 S1024x4096 S8x2048 S8x1024 S8x4096)
open Cert.ReferenceIdeal (S1x32x64 S1x32 S1x32x64x16 S1x32x16x64 S32x64 S32x64x16 S8x2048x512 S2048x8x32x64 S32x16x64 S8x32x64)
open Cert.KernelIdeal.S5 hiding abarR abarI den coefR coefI bbarR bbarI
open Cert.ReferenceIdeal.S5 (drive readout mixed gelu glu proj)
open Cert.ReferenceIdeal (S1x512 S1x512x512 S1x512x1024)

/-- A channel's group and place in it. -/
abbrev gCh (d : Fin 512) : Fin 32 := ⟨d.val / 16, by omega⟩

/-- The recurrence's output with the skip, entry by entry. -/
theorem mixed_apply (u : FVec Ideal S8x2048x512 .f32) (cr ci : FVec Ideal S1x32x16x64 .f32) (sk : FVec Ideal S1x512 .f32) (sr si : FVec Ideal S2048x8x32x64 .f32)
    (b : Fin 8) (t : Fin 2048) (d : Fin 512) : mixed u cr ci sk sr si (ix3 b t d)
      = (readout sr (layC cr) (ix4 b t (gCh d) (pOf d.val)) + readout si (Host.negf (layC ci)) (ix4 b t (gCh d) (pOf d.val)) + sk (ix2 0 d) * u (ix3 b t d) : EReal) := by
  pointwise [mixed]

/-- gelu's rows. -/
theorem gelu_row (y : FVec Ideal S8x2048x512 .f32) (v5 : FVec Ideal S1024x512 .f32) (lo hi : FVec Ideal S1024x256 .f32) (D8 : FVec Ideal S1x512 .f32)
    (r : Fin 1024) (b : Fin 8) (t : Fin 2048)
    (hlo : ∀ q : Fin 256, (lo (ix2 r q) + D8 (ix2 0 (halfCh 0 (by decide) q)) * v5 (ix2 r (halfCh 0 (by decide) q)) : EReal) = y (ix3 b t (halfCh 0 (by decide) q)))
    (hhi : ∀ q : Fin 256, (hi (ix2 r q) + D8 (ix2 0 (halfCh 1 (by decide) q)) * v5 (ix2 r (halfCh 1 (by decide) q)) : EReal) = y (ix3 b t (halfCh 1 (by decide) q)))
    (d : Fin 512) : geluOf v5 lo hi D8 (ix2 r d) = gelu y (ix3 b t d) := by
  have key : ∀ (a k l z w : EReal), z = w → z * (a * (1 + Ideal.tanh (k * (z + l * (z * (z * z)))))) = w * (a * (1 + Ideal.tanh (k * (w + l * (w * w * w))))) := by
    rintro a k l z w rfl
    rw [mul_comm (z * z) z]
  pointwise [geluOf, gelu]
  refine key _ _ _ _ _ ?_
  by_cases h : d.val < 256
  · rw [dif_pos h]
    have e : halfCh 0 (by decide) ⟨d.val, h⟩ = d := Fin.ext (Nat.zero_add _)
    have := hlo ⟨d.val, h⟩
    rwa [e] at this
  · rw [dif_neg h]
    have e : halfCh 1 (by decide) ⟨d.val - 256, by omega⟩ = d := Fin.ext (by show 256 * 1 + (d.val - 256) = d.val; omega)
    have := hhi ⟨d.val - 256, by omega⟩
    rwa [e] at this

/-- The gated linear unit's and the projection's rows. -/
theorem proj_row (z : FVec Ideal S8x2048x512 .f32) (v : FVec Ideal S1024x512 .f32) (G9 : FVec Ideal Cert.KernelIdeal.S512x512 .bf16) (G10 : FVec Ideal S1x512 .f32) (P11 : FVec Ideal Cert.KernelIdeal.S512x1024 .bf16)
    (wg : FVec Ideal S1x512x512 .f32) (bg : FVec Ideal S1x512 .f32) (wp : FVec Ideal S1x512x1024 .f32)
    (s : Fin 128) (b : Fin 8) (t : Fin 2048) (hv : ∀ d : Fin 512, v (ix2 (rowOf s.val s.isLt b) d) = z (ix3 b t d))
    (h9 : ∀ k d, G9 (ix2 k d) = wg (ix3 0 k d)) (h10 : ∀ d, G10 (ix2 0 d) = bg (ix2 0 d)) (h11 : ∀ k d, P11 (ix2 k d) = wp (ix3 0 k d)) (d : Fin 1024) :
    outOf v G9 G10 P11 (ix3 b s d) = proj wp (glu wg bg z) (ix3 b t d) := by
  pointwise [outOf, proj, glu]
  have e : ∀ h, (⟨s.val * 8 + b.val, h⟩ : Fin 1024) = rowOf s.val s.isLt b := fun _ => Fin.ext (by show s.val * 8 + b.val = 8 * s.val + b.val; omega)
  simp only [e, hv, h9, h10, h11]
  rfl

section
variable (u : FVec Ideal S8x2048x512 .f32) (bbR bbI : FVec Ideal S32x64x16 .f32) (T : Nat) (hT : T < 16)
  (U : FVec Ideal S8x128x512 .f32) (B2 B3 : FVec Ideal S256x2048 .bf16)
  (hU : ∀ (b : Fin 8) (t : Fin 128) (d : Fin 512), U (ix3 b t d) = u (ix3 b (timeOf T hT t.val t.isLt) d))
  (hB2 : InBlocks 0 (by decide) B2 bbR bbI) (hB3 : InBlocks 1 (by decide) B3 bbR bbI)
  (aR aI : FVec Ideal S32x64 .f32) (SR SI : Nat → FVec Ideal S8x32x64 .f32)
  (hSR : ∀ (k : Fin 2048) (b : Fin 8) (g : Fin 32) (n : Fin 64), SR (k + 1) (ix3 b g n) = (aR (ix2 g n) * SR k (ix3 b g n) - aI (ix2 g n) * SI k (ix3 b g n) + drive u bbR (ix4 k b g n) : EReal))
  (hSI : ∀ (k : Fin 2048) (b : Fin 8) (g : Fin 32) (n : Fin 64), SI (k + 1) (ix3 b g n) = (aR (ix2 g n) * SI k (ix3 b g n) + aI (ix2 g n) * SR k (ix3 b g n) + drive u bbI (ix4 k b g n) : EReal))
  (A6 A7 : FVec Ideal S8x2048 .f32) (S : FVec Ideal S8x4096 .f32)
  (h6 : ∀ hh hq b j, A6 (ix2 b (halfCol hh hq j)) = aR (ix2 (gOf hh hq j) (nOf j)))
  (h7 : ∀ hh hq b j, A7 (ix2 b (halfCol hh hq j)) = aI (ix2 (gOf hh hq j) (nOf j)))
  (hS : Packed S (SR (128 * T)) (SI (128 * T)))
  (cr ci : FVec Ideal S1x32x16x64 .f32) (sr si : FVec Ideal S2048x8x32x64 .f32)
  (hsr : ∀ (l : Fin 2048) (b : Fin 8) (g : Fin 32) (n : Fin 64), sr (ix4 l b g n) = SR (l + 1) (ix3 b g n))
  (hsi : ∀ (l : Fin 2048) (b : Fin 8) (g : Fin 32) (n : Fin 64), si (ix4 l b g n) = SI (l + 1) (ix3 b g n))
  (C4 C5 : FVec Ideal S2048x256 .bf16) (hC4 : OutBlocks 0 (by decide) C4 (layC cr) (Host.negf (layC ci))) (hC5 : OutBlocks 1 (by decide) C5 (layC cr) (Host.negf (layC ci)))
  (D8 : FVec Ideal S1x512 .f32) (G9 : FVec Ideal Cert.KernelIdeal.S512x512 .bf16) (G10 : FVec Ideal S1x512 .f32) (P11 : FVec Ideal Cert.KernelIdeal.S512x1024 .bf16)
  (sk : FVec Ideal S1x512 .f32) (wg : FVec Ideal S1x512x512 .f32) (bg : FVec Ideal S1x512 .f32) (wp : FVec Ideal S1x512x1024 .f32)
  (h8 : ∀ d, D8 (ix2 0 d) = sk (ix2 0 d))
  (h9 : ∀ k d, G9 (ix2 k d) = wg (ix3 0 k d)) (h10 : ∀ d, G10 (ix2 0 d) = bg (ix2 0 d)) (h11 : ∀ k d, P11 (ix2 k d) = wp (ix3 0 k d))
include hU hB2 hB3 hSR hSI h6 h7 hS hsr hsi hC4 hC5 h8 h9 h10 h11

/-- The block a grid point leaves is the reference's result at the block's times. -/
theorem point_value (b : Fin 8) (t : Fin 128) (d : Fin 1024) :
    pointOut U B2 B3 C4 C5 A6 A7 D8 G9 G10 P11 S (ix3 b t d) = proj wp (glu wg bg (gelu (mixed u cr ci sk sr si))) (ix3 b (timeOf T hT t.val t.isLt) d) := by
  have lo := yLo_readout u bbR bbI T hT U B2 B3 hU hB2 hB3 aR aI SR SI hSR hSI A6 A7 S h6 h7 hS sr si (layC cr) (Host.negf (layC ci)) C4 hsr hsi hC4 t.val t.isLt b
  have hi := yHi_readout u bbR bbI T hT U B2 B3 hU hB2 hB3 aR aI SR SI hSR hSI A6 A7 S h6 h7 hS sr si (layC cr) (Host.negf (layC ci)) C5 hsr hsi hC5 t.val t.isLt b
  refine proj_row _ _ G9 G10 P11 wg bg wp t b _ (fun d => gelu_row _ _ _ _ D8 _ b _ (fun q => ?_) (fun q => ?_) d) h9 h10 h11 d
  · have e1 : gCh (halfCh 0 (by decide) q) = qLo q := Fin.ext (by show (256 * 0 + q.val) / 16 = 16 * 0 + q.val / 16; omega)
    have e2 : pOf (halfCh 0 (by decide) q).val = pOf q.val := Fin.ext (by show (256 * 0 + q.val) % 16 = q.val % 16; omega)
    rw [mixed_apply, e1, e2, lo q, h8, inRows_apply U t b, hU]
  · have e1 : gCh (halfCh 1 (by decide) q) = qHi q := Fin.ext (by show (256 * 1 + q.val) / 16 = 16 * 1 + q.val / 16; omega)
    have e2 : pOf (halfCh 1 (by decide) q).val = pOf q.val := Fin.ext (by show (256 * 1 + q.val) % 16 = q.val % 16; omega)
    rw [mixed_apply, e1, e2, hi q, h8, inRows_apply U t b, hU]
end

end Cert.S5

end
-- ==== Proof.S5.In0.lean ====
/- What `s5_discretise` finds in its blocks: the parameters, reshaped by the host. -/
module

public import proofs.«01_k».proof.Proof.S5.Run
public import proofs.«01_k».proof.Proof.S5.Post

@[expose] public section

set_option maxRecDepth 16384

noncomputable section

namespace Cert.KernelIdeal.S5

open Idealize.ShloMosaic Idealize.ShloMosaic.TcCoe Idealize.SL.Sem
open Idealize.ShloMosaic.Pipeline (Dat)
open Cert.KernelIdeal Cert.KernelIdeal.Gen
open Cert.S5 (chOf stOf)

variable (m : (ℓ : Loc nD τ sig) → Buf (Elt Ideal) ℓ)

/-- The call runs once, over whole arrays. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

section
variable (c : Dev nD) (t : Fin cfg0.N) (g : Fin 32) (p : Fin 16) (n : Fin 64)
/-- The state matrix, real part: each group's row for each of its channels. -/
theorem in0_0 : (iblk0 (E0 m) c 0 t : FVec Ideal S512x64 .f32) (ix2 (chOf g p) n) = m ((c.tc : Thread nD τ).loc main_arg1) (ix3 0 g n) := by
  blk_simp [iblk0, E0, V1]
  entry_read
  pointwise
  blk_ext [idx0 t]
/-- The state matrix, imaginary part. -/
theorem in0_1 : (iblk0 (E0 m) c 1 t : FVec Ideal S512x64 .f32) (ix2 (chOf g p) n) = m ((c.tc : Thread nD τ).loc main_arg2) (ix3 0 g n) := by
  blk_simp [iblk0, E0, V1]
  entry_read
  pointwise
  blk_ext [idx0 t]
set_option maxHeartbeats 1000000 in
/-- The logarithm of the step, the same along a row. -/
theorem in0_2 : (iblk0 (E0 m) c 2 t : FVec Ideal S512x64 .f32) (ix2 (chOf g p) n) = m ((c.tc : Thread nD τ).loc main_arg3) (ix2 0 g) := by
  blk_simp [iblk0, E0, V1]
  entry_read
  pointwise
  blk_ext [idx0 t]
set_option maxHeartbeats 1000000 in
/-- The input matrix, real part, a row for each channel. -/
theorem in0_3 : (iblk0 (E0 m) c 3 t : FVec Ideal S512x64 .f32) (ix2 (chOf g p) n) = m ((c.tc : Thread nD τ).loc main_arg4) (ix4 0 g n p) := by
  blk_simp [iblk0, E0, V1]
  entry_read
  pointwise
  blk_ext [idx0 t]
set_option maxHeartbeats 1000000 in
/-- The input matrix, imaginary part. -/
theorem in0_4 : (iblk0 (E0 m) c 4 t : FVec Ideal S512x64 .f32) (ix2 (chOf g p) n) = m ((c.tc : Thread nD τ).loc main_arg5) (ix4 0 g n p) := by
  blk_simp [iblk0, E0, V1]
  entry_read
  pointwise
  blk_ext [idx0 t]
set_option maxHeartbeats 1000000 in
/-- The output matrix, real part, a row for each state. -/
theorem in0_5 : (iblk0 (E0 m) c 5 t : FVec Ideal S2048x16 .f32) (ix2 (stOf g n) p) = m ((c.tc : Thread nD τ).loc main_arg6) (ix4 0 g p n) := by
  blk_simp [iblk0, E0, V1]
  entry_read
  pointwise
  blk_ext [idx0 t]
set_option maxHeartbeats 1000000 in
/-- The output matrix, imaginary part. -/
theorem in0_6 : (iblk0 (E0 m) c 6 t : FVec Ideal S2048x16 .f32) (ix2 (stOf g n) p) = m ((c.tc : Thread nD τ).loc main_arg7) (ix4 0 g p n) := by
  blk_simp [iblk0, E0, V1]
  entry_read
  pointwise
  blk_ext [idx0 t]
end

end Cert.KernelIdeal.S5

end
-- ==== Proof.S5.Out0.lean ====
/- What `s5_discretise` leaves in its result arrays. -/
module

public import proofs.«01_k».proof.Proof.S5.In0

@[expose] public section

set_option maxRecDepth 16384

noncomputable section

namespace Cert.KernelIdeal.S5

open Idealize.ShloMosaic Idealize.ShloMosaic.TcCoe Idealize.SL.Sem
open Idealize.ShloMosaic.Pipeline (Dat)
open Cert.KernelIdeal Cert.KernelIdeal.Gen
open Cert.S5 (chOf stOf)

variable (m : (ℓ : Loc nD τ sig) → Buf (Elt Ideal) ℓ)

/-- The only grid point. -/
abbrev only : Fin cfg0.N := ⟨0, by decide⟩
/-- Window `w`'s block. -/
abbrev blk (c : Dev nD) (w : Fin cfg0.W) := iblk0 (E0 m) c w only

theorem eq_only (t : Fin cfg0.N) : t = only := by revert t; decide

/-- The state matrix's table, real part. -/
abbrev tab7 (c : Dev nD) : FVec Ideal S8x2048 .f32 := groupCols (F := Ideal) (abarR (blk m c 0) (blk m c 1) (blk m c 2))
theorem out0_7 (c : Dev nD) : E1 m c main_v23_0 = tab7 m c := by
  have h : (dat0 (E0 m) c).arrAt 7 cfg0.N = tab7 m c := by
    refine (dat0 (E0 m) c).arrAt_eq_of_covers 7 _ (by decide +kernel) fun t _ y => ?_
    obtain rfl := eq_only t
    blk_simp
    rw [after0_7]; frame_out
    refine congrArg _ ?_
    blk_ext [idx0 only]
  exact (V3_of m (outs0 m) c main_v23_0 (by decide)).trans ((final0 m c 7).symm.trans h)
/-- The state matrix's table, imaginary part. -/
abbrev tab8 (c : Dev nD) : FVec Ideal S8x2048 .f32 := groupCols (F := Ideal) (abarI (blk m c 0) (blk m c 1) (blk m c 2))
theorem out0_8 (c : Dev nD) : E1 m c main_v23_1 = tab8 m c := by
  have h : (dat0 (E0 m) c).arrAt 8 cfg0.N = tab8 m c := by
    refine (dat0 (E0 m) c).arrAt_eq_of_covers 8 _ (by decide +kernel) fun t _ y => ?_
    obtain rfl := eq_only t
    blk_simp
    rw [after0_8]; frame_out
    refine congrArg _ ?_
    blk_ext [idx0 only]
  exact (V3_of m (outs0 m) c main_v23_1 (by decide)).trans ((final0 m c 8).symm.trans h)
/-- The first half's input matrix. -/
abbrev tab9 (c : Dev nD) : FVec Ideal S256x2048 .bf16 := inMat (F := Ideal) (blk m c 0) (blk m c 1) (blk m c 2) (blk m c 3) (blk m c 4) 0 slices_S512x64_o0_0_S256x64
theorem out0_9 (c : Dev nD) : E1 m c main_v23_2 = tab9 m c := by
  have h : (dat0 (E0 m) c).arrAt 9 cfg0.N = tab9 m c := by
    refine (dat0 (E0 m) c).arrAt_eq_of_covers 9 _ (by decide +kernel) fun t _ y => ?_
    obtain rfl := eq_only t
    blk_simp
    rw [after0_9]; frame_out
    refine congrArg _ ?_
    blk_ext [idx0 only]
  exact (V3_of m (outs0 m) c main_v23_2 (by decide)).trans ((final0 m c 9).symm.trans h)
/-- The second half's input matrix. -/
abbrev tab10 (c : Dev nD) : FVec Ideal S256x2048 .bf16 := inMat (F := Ideal) (blk m c 0) (blk m c 1) (blk m c 2) (blk m c 3) (blk m c 4) 256 slices_S512x64_o256_0_S256x64
theorem out0_10 (c : Dev nD) : E1 m c main_v23_3 = tab10 m c := by
  have h : (dat0 (E0 m) c).arrAt 10 cfg0.N = tab10 m c := by
    refine (dat0 (E0 m) c).arrAt_eq_of_covers 10 _ (by decide +kernel) fun t _ y => ?_
    obtain rfl := eq_only t
    blk_simp
    rw [after0_10]; frame_out
    refine congrArg _ ?_
    blk_ext [idx0 only]
  exact (V3_of m (outs0 m) c main_v23_3 (by decide)).trans ((final0 m c 10).symm.trans h)
/-- The first half's output matrix. -/
abbrev tab11 (c : Dev nD) : FVec Ideal S2048x256 .bf16 := outMat (F := Ideal) (blk m c 5) (blk m c 6) 0 slices_S2048x16_o0_0_S1024x16
theorem out0_11 (c : Dev nD) : E1 m c main_v23_4 = tab11 m c := by
  have h : (dat0 (E0 m) c).arrAt 11 cfg0.N = tab11 m c := by
    refine (dat0 (E0 m) c).arrAt_eq_of_covers 11 _ (by decide +kernel) fun t _ y => ?_
    obtain rfl := eq_only t
    blk_simp
    rw [after0_11]; frame_out
    refine congrArg _ ?_
    blk_ext [idx0 only]
  exact (V3_of m (outs0 m) c main_v23_4 (by decide)).trans ((final0 m c 11).symm.trans h)
/-- The second half's output matrix. -/
abbrev tab12 (c : Dev nD) : FVec Ideal S2048x256 .bf16 := outMat (F := Ideal) (blk m c 5) (blk m c 6) 1024 slices_S2048x16_o1024_0_S1024x16
theorem out0_12 (c : Dev nD) : E1 m c main_v23_5 = tab12 m c := by
  have h : (dat0 (E0 m) c).arrAt 12 cfg0.N = tab12 m c := by
    refine (dat0 (E0 m) c).arrAt_eq_of_covers 12 _ (by decide +kernel) fun t _ y => ?_
    obtain rfl := eq_only t
    blk_simp
    rw [after0_12]; frame_out
    refine congrArg _ ?_
    blk_ext [idx0 only]
  exact (V3_of m (outs0 m) c main_v23_5 (by decide)).trans ((final0 m c 12).symm.trans h)

end Cert.KernelIdeal.S5

end
-- ==== Proof.S5.In1.lean ====
/- What `s5_branch` finds in its blocks. -/
module

public import proofs.«01_k».proof.Proof.S5.Out0

@[expose] public section

set_option maxRecDepth 16384

noncomputable section

namespace Cert.KernelIdeal.S5

open Idealize.ShloMosaic Idealize.ShloMosaic.TcCoe Idealize.SL.Sem
open Idealize.ShloMosaic.Pipeline (Dat)
open Cert.KernelIdeal Cert.KernelIdeal.Gen
open Cert.S5 (timeOf)

variable (m : (ℓ : Loc nD τ sig) → Buf (Elt Ideal) ℓ)

/-- The grid runs over the blocks of 128 times; the tables and the weights stay. -/
theorem idx1 : ∀ t : Fin cfg1.N, win1_0.index t = ![0, t.val, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, t.val, 0] ∧ t.val < 16 :=
  (by decide +kernel : ∀ t : Fin grid1.N, _)

/-- An argument that no host operation and no call writes is as launched. -/
theorem kept (c : Dev nD) (r : Ref sig .tc) (h3 : r ∉ hostOps1_W) (h2 : r ∉ ([main_v23_0, main_v23_1, main_v23_2, main_v23_3, main_v23_4, main_v23_5] : List (Ref sig .tc))) (h1 : r ∉ hostOps0_W) :
    E1 m c r = m ((c.tc : Thread nD τ).loc r) :=
  (V3_of m (outs0 m) c r h3).trans ((V2_of m (outs0 m) c r h2).trans (V1_of m c r h1))
/-- The same before the second host stretch. -/
theorem kept2 (c : Dev nD) (r : Ref sig .tc) (h2 : r ∉ ([main_v23_0, main_v23_1, main_v23_2, main_v23_3, main_v23_4, main_v23_5] : List (Ref sig .tc))) (h1 : r ∉ hostOps0_W) :
    V2 m (outs0 m) c (Proc.devRef .tc r) = m ((c.tc : Thread nD τ).loc r) :=
  (V2_of m (outs0 m) c r h2).trans (V1_of m c r h1)

section
variable (c : Dev nD) (t : Fin cfg1.N)

/-- The input's block: 128 times. -/
theorem in1_0 (hT : t.val < 16) (b : Fin 8) (s : Fin 128) (d : Fin 512) :
    (iblk1 (E1 m) c 0 t : FVec Ideal S8x128x512 .f32) (ix3 b s d) = m ((c.tc : Thread nD τ).loc main_arg0) (ix3 b (timeOf t.val hT s.val s.isLt) d) := by
  refine Eq.trans ?_ (congrFun (kept m c main_arg0 (by decide) (by decide) (by decide)) _)
  blk_simp [iblk1]
  refine congrArg _ ?_
  blk_ext [idx1 t]
/-- Window 1's block is the whole table. -/
theorem in1_1 : iblk1 (E1 m) c 1 t = tab9 m c := by
  funext y
  refine Eq.trans ?_ (congrFun (out0_9 m c) y)
  blk_simp [iblk1]
  refine congrArg _ ?_
  blk_ext [idx1 t]
/-- Window 2's block is the whole table. -/
theorem in1_2 : iblk1 (E1 m) c 2 t = tab10 m c := by
  funext y
  refine Eq.trans ?_ (congrFun (out0_10 m c) y)
  blk_simp [iblk1]
  refine congrArg _ ?_
  blk_ext [idx1 t]
/-- Window 3's block is the whole table. -/
theorem in1_3 : iblk1 (E1 m) c 3 t = tab11 m c := by
  funext y
  refine Eq.trans ?_ (congrFun (out0_11 m c) y)
  blk_simp [iblk1]
  refine congrArg _ ?_
  blk_ext [idx1 t]
/-- Window 4's block is the whole table. -/
theorem in1_4 : iblk1 (E1 m) c 4 t = tab12 m c := by
  funext y
  refine Eq.trans ?_ (congrFun (out0_12 m c) y)
  blk_simp [iblk1]
  refine congrArg _ ?_
  blk_ext [idx1 t]
/-- Window 5's block is the whole table. -/
theorem in1_5 : iblk1 (E1 m) c 5 t = tab7 m c := by
  funext y
  refine Eq.trans ?_ (congrFun (out0_7 m c) y)
  blk_simp [iblk1]
  refine congrArg _ ?_
  blk_ext [idx1 t]
/-- Window 6's block is the whole table. -/
theorem in1_6 : iblk1 (E1 m) c 6 t = tab8 m c := by
  funext y
  refine Eq.trans ?_ (congrFun (out0_8 m c) y)
  blk_simp [iblk1]
  refine congrArg _ ?_
  blk_ext [idx1 t]
/-- Window 7's block is argument 8 whole. -/
theorem in1_7 (d : Fin 512) : (iblk1 (E1 m) c 7 t : FVec Ideal S1x512 .f32) (ix2 0 d) = m ((c.tc : Thread nD τ).loc main_arg8) (ix2 0 d) := by
  refine Eq.trans ?_ (congrFun (kept2 m c main_arg8 (by decide) (by decide)) _)
  blk_simp [iblk1, E1, V3]
  entry_read
  pointwise
  refine congrArg _ ?_
  blk_ext [idx1 t]
/-- Window 8's block is argument 9 whole. -/
theorem in1_8 (k d : Fin 512) : (iblk1 (E1 m) c 8 t : FVec Ideal S512x512 .bf16) (ix2 k d) = m ((c.tc : Thread nD τ).loc main_arg9) (ix3 0 k d) := by
  refine Eq.trans ?_ (congrFun (kept2 m c main_arg9 (by decide) (by decide)) _)
  blk_simp [iblk1, E1, V3]
  entry_read
  pointwise
  refine congrArg _ ?_
  blk_ext [idx1 t]
/-- Window 9's block is argument 10 whole. -/
theorem in1_9 (d : Fin 512) : (iblk1 (E1 m) c 9 t : FVec Ideal S1x512 .f32) (ix2 0 d) = m ((c.tc : Thread nD τ).loc main_arg10) (ix2 0 d) := by
  refine Eq.trans ?_ (congrFun (kept2 m c main_arg10 (by decide) (by decide)) _)
  blk_simp [iblk1, E1, V3]
  entry_read
  pointwise
  refine congrArg _ ?_
  blk_ext [idx1 t]
/-- Window 10's block is argument 11 whole. -/
theorem in1_10 (k : Fin 512) (d : Fin 1024) : (iblk1 (E1 m) c 10 t : FVec Ideal S512x1024 .bf16) (ix2 k d) = m ((c.tc : Thread nD τ).loc main_arg11) (ix3 0 k d) := by
  refine Eq.trans ?_ (congrFun (kept2 m c main_arg11 (by decide) (by decide)) _)
  blk_simp [iblk1, E1, V3]
  entry_read
  pointwise
  refine congrArg _ ?_
  blk_ext [idx1 t]
end

end Cert.KernelIdeal.S5

end
-- ==== Proof.S5.Value.lean ====
/- The `s5_branch` call's result array is the reference's result. -/
module

public import proofs.«01_k».proof.Proof.S5.In1

@[expose] public section

set_option maxRecDepth 16384

noncomputable section

namespace Cert.KernelIdeal.S5

open Idealize.ShloMosaic Idealize.ShloMosaic.TcCoe Idealize.SL.Sem
open Idealize.ShloMosaic.Pipeline (Dat)
open Cert.KernelIdeal Cert.KernelIdeal.Gen
open Cert.S5 (timeOf Packed InBlocks OutBlocks layC halfCol gOf nOf)
open Cert.ReferenceIdeal (S1x32x64 S1x32 S1x32x64x16 S1x32x16x64 S32x64 S32x64x16 S2048x8x32x64 S8x32x64)
open Cert.ReferenceIdeal.S5 (drive mixed gelu glu proj)

variable (m : (ℓ : Loc nD τ sig) → Buf (Elt Ideal) ℓ) (c : Dev nD)

/-- The arguments. -/
abbrev aU : FVec Ideal S8x2048x512 .f32 := m ((c.tc : Thread nD τ).loc main_arg0)
abbrev aRe : FVec Ideal S1x32x64 .f32 := m ((c.tc : Thread nD τ).loc main_arg1)
abbrev aIm : FVec Ideal S1x32x64 .f32 := m ((c.tc : Thread nD τ).loc main_arg2)
abbrev aLdt : FVec Ideal S1x32 .f32 := m ((c.tc : Thread nD τ).loc main_arg3)
abbrev aBr : FVec Ideal S1x32x64x16 .f32 := m ((c.tc : Thread nD τ).loc main_arg4)
abbrev aBi : FVec Ideal S1x32x64x16 .f32 := m ((c.tc : Thread nD τ).loc main_arg5)
abbrev aCr : FVec Ideal S1x32x16x64 .f32 := m ((c.tc : Thread nD τ).loc main_arg6)
abbrev aCi : FVec Ideal S1x32x16x64 .f32 := m ((c.tc : Thread nD τ).loc main_arg7)
abbrev aSk : FVec Ideal S1x512 .f32 := m ((c.tc : Thread nD τ).loc main_arg8)
abbrev aWg : FVec Ideal S1x512x512 .f32 := m ((c.tc : Thread nD τ).loc main_arg9)
abbrev aBg : FVec Ideal S1x512 .f32 := m ((c.tc : Thread nD τ).loc main_arg10)
abbrev aWp : FVec Ideal S1x512x1024 .f32 := m ((c.tc : Thread nD τ).loc main_arg11)
/-- The reference's discretised matrices of the arguments. -/
abbrev rAR : FVec Ideal S32x64 .f32 := ReferenceIdeal.S5.abarR (aRe m c) (aIm m c) (aLdt m c)
abbrev rAI : FVec Ideal S32x64 .f32 := ReferenceIdeal.S5.abarI (aRe m c) (aIm m c) (aLdt m c)
abbrev rBR : FVec Ideal S32x64x16 .f32 := ReferenceIdeal.S5.bbarR (aRe m c) (aIm m c) (aLdt m c) (aBr m c) (aBi m c)
abbrev rBI : FVec Ideal S32x64x16 .f32 := ReferenceIdeal.S5.bbarI (aRe m c) (aIm m c) (aLdt m c) (aBr m c) (aBi m c)

/-- The tables are the reference's matrices, block-diagonal or row by row. -/
theorem tab9_blocks : InBlocks 0 (by decide) (tab9 m c) (rBR m c) (rBI m c) :=
  Cert.S5.inMat_blocks _ _ _ _ _ _ _ _ _ _ (in0_0 m c only) (in0_1 m c only) (in0_2 m c only) (in0_3 m c only) (in0_4 m c only) 0 (by decide) slices_S512x64_o0_0_S256x64
theorem tab10_blocks : InBlocks 1 (by decide) (tab10 m c) (rBR m c) (rBI m c) :=
  Cert.S5.inMat_blocks _ _ _ _ _ _ _ _ _ _ (in0_0 m c only) (in0_1 m c only) (in0_2 m c only) (in0_3 m c only) (in0_4 m c only) 1 (by decide) slices_S512x64_o256_0_S256x64
theorem tab11_blocks : OutBlocks 0 (by decide) (tab11 m c) (layC (aCr m c)) (Host.negf (layC (aCi m c))) :=
  Cert.S5.outMat_blocks _ _ _ _ (fun g p n => in0_5 m c only g p n) (fun g p n => in0_6 m c only g p n) 0 (by decide) slices_S2048x16_o0_0_S1024x16
theorem tab12_blocks : OutBlocks 1 (by decide) (tab12 m c) (layC (aCr m c)) (Host.negf (layC (aCi m c))) :=
  Cert.S5.outMat_blocks _ _ _ _ (fun g p n => in0_5 m c only g p n) (fun g p n => in0_6 m c only g p n) 1 (by decide) slices_S2048x16_o1024_0_S1024x16
theorem tab7_rows (hh : Nat) (hq : hh < 2) (b : Fin 8) (j : Fin 1024) : tab7 m c (ix2 b (halfCol hh hq j)) = rAR m c (ix2 (gOf hh hq j) (nOf j)) :=
  Cert.S5.groupCols_abarR _ _ _ _ _ _ (in0_0 m c only) (in0_1 m c only) (in0_2 m c only) hh hq b j
theorem tab8_rows (hh : Nat) (hq : hh < 2) (b : Fin 8) (j : Fin 1024) : tab8 m c (ix2 b (halfCol hh hq j)) = rAI m c (ix2 (gOf hh hq j) (nOf j)) :=
  Cert.S5.groupCols_abarI _ _ _ _ _ _ (in0_0 m c only) (in0_1 m c only) (in0_2 m c only) hh hq b j

section
variable (SR SI : Nat → FVec Ideal S8x32x64 .f32) (hR0 : ∀ i, SR 0 i = (0 : EReal)) (hI0 : ∀ i, SI 0 i = (0 : EReal))
  (hSR : ∀ (k : Fin 2048) (b : Fin 8) (g : Fin 32) (n : Fin 64), SR (k + 1) (ix3 b g n)
    = (rAR m c (ix2 g n) * SR k (ix3 b g n) - rAI m c (ix2 g n) * SI k (ix3 b g n) + drive (aU m c) (rBR m c) (ix4 k b g n) : EReal))
  (hSI : ∀ (k : Fin 2048) (b : Fin 8) (g : Fin 32) (n : Fin 64), SI (k + 1) (ix3 b g n)
    = (rAR m c (ix2 g n) * SI k (ix3 b g n) + rAI m c (ix2 g n) * SR k (ix3 b g n) + drive (aU m c) (rBI m c) (ix4 k b g n) : EReal))
include hR0 hI0 hSR hSI

/-- The kept state before each point is the reference's state. -/
theorem state_packed : ∀ T : Nat, T ≤ 16 → Packed (stateAt (E1 m) c T) (SR (128 * T)) (SI (128 * T)) := by
  intro T
  induction T with
  | zero =>
    intro _
    have z : ∀ i, (stateAt (E1 m) c 0 : FVec Ideal S8x4096 .f32) i = (0 : EReal) := fun i => by
      show (zeroState : FVec Ideal S8x4096 .f32) i = 0
      pointwise [zeroState]
    exact ⟨fun _ _ => (z _).trans (hR0 _).symm, fun _ _ => (z _).trans (hI0 _).symm, fun _ _ => (z _).trans (hR0 _).symm, fun _ _ => (z _).trans (hI0 _).symm⟩
  | succ T ih =>
    intro hT
    have hlt : T < cfg1.N := (show T < 16 by omega)
    have e : stateAt (E1 m) c (T + 1) = pointState (iblk1 (E1 m) c 0 ⟨T, hlt⟩) (tab9 m c) (tab10 m c) (tab7 m c) (tab8 m c) (stateAt (E1 m) c T) := by
      rw [stateAt, dif_pos hlt, in1_1, in1_2, in1_5, in1_6]
    rw [e]
    exact Cert.S5.point_packed (aU m c) (rBR m c) (rBI m c) T (by omega) _ _ _ (fun b s d => in1_0 m c ⟨T, hlt⟩ (by show T < 16; omega) b s d)
      (tab9_blocks m c) (tab10_blocks m c) (rAR m c) (rAI m c) SR SI hSR hSI _ _ _ (tab7_rows m c) (tab8_rows m c) (ih (by omega))

variable (sr si : FVec Ideal S2048x8x32x64 .f32)
  (hsr : ∀ (l : Fin 2048) (b : Fin 8) (g : Fin 32) (n : Fin 64), sr (ix4 l b g n) = SR (l + 1) (ix3 b g n))
  (hsi : ∀ (l : Fin 2048) (b : Fin 8) (g : Fin 32) (n : Fin 64), si (ix4 l b g n) = SI (l + 1) (ix3 b g n))
include hsr hsi

/-- What grid point `t` stores is the reference's result at its 128 times. -/
theorem point (t : Fin cfg1.N) (hT : t.val < 16) (b : Fin 8) (s : Fin 128) (d : Fin 1024) :
    pointOut (iblk1 (E1 m) c 0 t) (iblk1 (E1 m) c 1 t) (iblk1 (E1 m) c 2 t) (iblk1 (E1 m) c 3 t) (iblk1 (E1 m) c 4 t) (iblk1 (E1 m) c 5 t) (iblk1 (E1 m) c 6 t)
      (iblk1 (E1 m) c 7 t) (iblk1 (E1 m) c 8 t) (iblk1 (E1 m) c 9 t) (iblk1 (E1 m) c 10 t) (stateAt (E1 m) c t.val) (ix3 b s d)
      = proj (aWp m c) (glu (aWg m c) (aBg m c) (gelu (mixed (aU m c) (aCr m c) (aCi m c) (aSk m c) sr si))) (ix3 b (timeOf t.val hT s.val s.isLt) d) := by
  rw [in1_1, in1_2, in1_3, in1_4, in1_5, in1_6]
  exact Cert.S5.point_value (aU m c) (rBR m c) (rBI m c) t.val hT _ _ _ (in1_0 m c t hT) (tab9_blocks m c) (tab10_blocks m c) (rAR m c) (rAI m c) SR SI hSR hSI _ _ _
    (tab7_rows m c) (tab8_rows m c) (state_packed m c SR SI hR0 hI0 hSR hSI t.val (by omega)) (aCr m c) (aCi m c) sr si hsr hsi _ _ (tab11_blocks m c) (tab12_blocks m c) _ _ _ _
    (aSk m c) (aWg m c) (aBg m c) (aWp m c) (in1_7 m c t) (in1_8 m c t) (in1_9 m c t) (in1_10 m c t) b s d

/-- The result array after the run is the reference's result. -/
theorem final : (dat1 (E1 m) c).arrAt 11 cfg1.N = proj (aWp m c) (glu (aWg m c) (aBg m c) (gelu (mixed (aU m c) (aCr m c) (aCi m c) (aSk m c) sr si))) := by
  refine (dat1 (E1 m) c).arrAt_eq_of_covers 11 _ (by decide +kernel) fun t _ y => ?_
  blk_simp
  rw [after1_11]; frame_out
  have ht : t.val < 16 := (idx1 t).2.2.2.2.2.2.2.2.2.2.2.2
  have h0 : (y 0).val < 8 := (y 0).isLt
  have h1 : (y 1).val < 128 := (y 1).isLt
  have h2 : (y 2).val < 1024 := (y 2).isLt
  have hy : y = ix3 ⟨(y 0).val, h0⟩ ⟨(y 1).val, h1⟩ ⟨(y 2).val, h2⟩ := by blk_ext
  refine Eq.trans ((congrArg _ hy).trans (point m c SR SI hR0 hI0 hSR hSI sr si hsr hsi t ht ⟨(y 0).val, h0⟩ ⟨(y 1).val, h1⟩ ⟨(y 2).val, h2⟩)) ?_
  refine congrArg _ ?_
  blk_ext [idx1 t]
end

end Cert.KernelIdeal.S5

end
-- ==== Proof.S5.Finite.lean ====
/- Finite values, and the two orders of the recurrence's products, which agree on them. -/
module

public import proofs.«01_k».proof.Proof.S5.Post

@[expose] public section

set_option maxRecDepth 16384

noncomputable section

open Idealize.ShloMosaic Idealize.ShloMosaic.TcCoe Idealize.SL.Sem

namespace Cert.S5

open Cert.ReferenceIdeal (S1x32x64 S1x32 S1x32x64x16 S1x32x16x64 S32x64 S32x64x16 S8x2048x512 S2048x8x32x64 S32x16x64 S8x32x64 S1x512)
open Cert.ReferenceIdeal.S5

/-- A value that is a real number. -/
def IsReal (x : EReal) : Prop := ∃ r : ℝ, x = r

/-- A sum of finite values, as the real numbers' sum. -/
theorem coe_sum {N : Nat} (f : Fin N → ℝ) : (∑ k, (f k : EReal)) = ((∑ k, f k : ℝ) : EReal) := by
  induction N with
  | zero => simp
  | succ N ih => rw [Fin.sum_univ_succ, Fin.sum_univ_succ, ih, EReal.coe_add]

namespace IsReal
variable {x y : EReal}
theorem of_lt (h₁ : x < ⊤) (h₂ : ⊥ < x) : IsReal x := ⟨x.toReal, (EReal.coe_toReal h₁.ne h₂.ne').symm⟩
theorem coe (r : ℝ) : IsReal (r : EReal) := ⟨r, rfl⟩
theorem add (hx : IsReal x) (hy : IsReal y) : IsReal (x + y) := by
  obtain ⟨a, rfl⟩ := hx; obtain ⟨b, rfl⟩ := hy; exact ⟨a + b, (EReal.coe_add a b).symm⟩
theorem sub (hx : IsReal x) (hy : IsReal y) : IsReal (x - y) := by
  obtain ⟨a, rfl⟩ := hx; obtain ⟨b, rfl⟩ := hy; exact ⟨a - b, (EReal.coe_sub a b).symm⟩
theorem mul (hx : IsReal x) (hy : IsReal y) : IsReal (x * y) := by
  obtain ⟨a, rfl⟩ := hx; obtain ⟨b, rfl⟩ := hy; exact ⟨a * b, (EReal.coe_mul a b).symm⟩
theorem exp (hx : IsReal x) : IsReal (Ideal.exp x) := by
  obtain ⟨a, rfl⟩ := hx; exact ⟨_, rfl⟩
theorem cos (hx : IsReal x) : IsReal (Ideal.cos x) := by
  obtain ⟨a, rfl⟩ := hx; exact ⟨_, rfl⟩
theorem sin (hx : IsReal x) : IsReal (Ideal.sin x) := by
  obtain ⟨a, rfl⟩ := hx; exact ⟨_, rfl⟩
theorem div (hx : IsReal x) (hy : IsReal y) (h : y ≠ 0) : IsReal (Ideal.div x y) := by
  obtain ⟨a, rfl⟩ := hx; obtain ⟨b, rfl⟩ := hy
  rw [Ideal.div, if_neg h]
  exact ⟨a * b⁻¹, by rw [EReal.coe_mul, EReal.coe_inv]⟩
theorem sum {N : Nat} {f : Fin N → EReal} (h : ∀ k, IsReal (f k)) : IsReal (∑ k, f k) := by
  choose r hr using h
  exact ⟨∑ k, r k, by simp only [hr, coe_sum]⟩
end IsReal

/-- Coefficients go out of sums of finite values. -/
theorem out_sub {N : Nat} {c d : EReal} {u a b : Fin N → EReal} (hc : IsReal c) (hd : IsReal d) (hu : ∀ k, IsReal (u k)) (ha : ∀ k, IsReal (a k)) (hb : ∀ k, IsReal (b k)) :
    (∑ k, u k * (c * a k - d * b k)) = c * (∑ k, u k * a k) - d * ∑ k, u k * b k := by
  obtain ⟨c, rfl⟩ := hc; obtain ⟨d, rfl⟩ := hd
  choose u' hu using hu; choose a' ha using ha; choose b' hb using hb
  simp only [hu, ha, hb, ← EReal.coe_mul, ← EReal.coe_sub, coe_sum]
  refine congrArg _ ?_
  rw [Finset.mul_sum, Finset.mul_sum, ← Finset.sum_sub_distrib]
  exact Finset.sum_congr rfl fun k _ => by ring
theorem out_add {N : Nat} {c d : EReal} {u a b : Fin N → EReal} (hc : IsReal c) (hd : IsReal d) (hu : ∀ k, IsReal (u k)) (ha : ∀ k, IsReal (a k)) (hb : ∀ k, IsReal (b k)) :
    (∑ k, u k * (c * a k + d * b k)) = c * (∑ k, u k * a k) + d * ∑ k, u k * b k := by
  obtain ⟨c, rfl⟩ := hc; obtain ⟨d, rfl⟩ := hd
  choose u' hu using hu; choose a' ha using ha; choose b' hb using hb
  simp only [hu, ha, hb, ← EReal.coe_mul, ← EReal.coe_add, coe_sum]
  refine congrArg _ ?_
  rw [Finset.mul_sum, Finset.mul_sum, ← Finset.sum_add_distrib]
  exact Finset.sum_congr rfl fun k _ => by ring
/-- A sign goes out of a sum of finite values. -/
theorem out_neg {N : Nat} {s a : Fin N → EReal} (hs : ∀ k, IsReal (s k)) (ha : ∀ k, IsReal (a k)) : (∑ k, s k * -a k) = -∑ k, s k * a k := by
  choose s' hs using hs; choose a' ha using ha
  simp only [hs, ha, ← EReal.coe_mul, ← EReal.coe_neg, coe_sum, mul_neg, Finset.sum_neg_distrib]

/-- The recurrence's arguments and the output matrix's imaginary part are finite, and no entry of A is zero. -/
structure FiniteArgs (u : FVec Ideal S8x2048x512 .f32) (re im : FVec Ideal S1x32x64 .f32) (ldt : FVec Ideal S1x32 .f32)
    (br bi : FVec Ideal S1x32x64x16 .f32) (ci : FVec Ideal S1x32x16x64 .f32) : Prop where
  f_u : ∀ i, IsReal (u i)
  f_re : ∀ i, IsReal (re i)
  f_im : ∀ i, IsReal (im i)
  f_ldt : ∀ i, IsReal (ldt i)
  f_br : ∀ i, IsReal (br i)
  f_bi : ∀ i, IsReal (bi i)
  f_ci : ∀ i, IsReal (ci i)
  A : ∀ i, (re i * re i + im i * im i : EReal) ≠ 0

section
variable {u : FVec Ideal S8x2048x512 .f32} {re im : FVec Ideal S1x32x64 .f32} {ldt : FVec Ideal S1x32 .f32}
  {br bi : FVec Ideal S1x32x64x16 .f32} {cr ci : FVec Ideal S1x32x16x64 .f32} (h : FiniteArgs u re im ldt br bi ci)
include h

theorem real_abarR (g : Fin 32) (n : Fin 64) : IsReal (abarR re im ldt (ix2 g n)) := by
  pointwise [abarR, dtB]
  exact ((h.f_re _).mul (h.f_ldt _).exp).exp.mul ((h.f_im _).mul (h.f_ldt _).exp).cos
theorem real_abarI (g : Fin 32) (n : Fin 64) : IsReal (abarI re im ldt (ix2 g n)) := by
  pointwise [abarI, dtB]
  exact ((h.f_re _).mul (h.f_ldt _).exp).exp.mul ((h.f_im _).mul (h.f_ldt _).exp).sin
theorem real_coefR (g : Fin 32) (n : Fin 64) : IsReal (coefR re im ldt (ix2 g n)) := by
  have a := real_abarR h g n
  have b := real_abarI h g n
  pointwise [coefR, den, abarR1]
  exact (((a.sub (IsReal.coe 1)).mul (h.f_re _)).add (b.mul (h.f_im _))).div (((h.f_re _).mul (h.f_re _)).add ((h.f_im _).mul (h.f_im _))) (h.A _)
theorem real_coefI (g : Fin 32) (n : Fin 64) : IsReal (coefI re im ldt (ix2 g n)) := by
  have a := real_abarR h g n
  have b := real_abarI h g n
  pointwise [coefI, den, abarR1]
  exact ((b.mul (h.f_re _)).sub ((a.sub (IsReal.coe 1)).mul (h.f_im _))).div (((h.f_re _).mul (h.f_re _)).add ((h.f_im _).mul (h.f_im _))) (h.A _)

omit h in
/-- An input matrix's entries without the layer's axis. -/
theorem layB_apply (x : FVec Ideal S1x32x64x16 .f32) (g : Fin 32) (n : Fin 64) (p : Fin 16) : layB x (ix3 g n p) = x (ix4 0 g n p) := by
  pointwise
omit h in
/-- What drives the states, entry by entry. -/
theorem driveR_apply (t : Fin 2048) (b : Fin 8) (g : Fin 32) (n : Fin 64) : driveR u re im ldt br bi (ix4 t b g n)
    = (coefR re im ldt (ix2 g n) * drive u (layB br) (ix4 t b g n) - coefI re im ldt (ix2 g n) * drive u (layB bi) (ix4 t b g n) : EReal) := by
  pointwise [driveR, drive, inProd]
omit h in
theorem driveI_apply (t : Fin 2048) (b : Fin 8) (g : Fin 32) (n : Fin 64) : driveI u re im ldt br bi (ix4 t b g n)
    = (coefR re im ldt (ix2 g n) * drive u (layB bi) (ix4 t b g n) + coefI re im ldt (ix2 g n) * drive u (layB br) (ix4 t b g n) : EReal) := by
  pointwise [driveI, drive, inProd]

/-- The coefficients applied to the products give the products with the discretised input matrix. -/
theorem driveR_eq (t : Fin 2048) (b : Fin 8) (g : Fin 32) (n : Fin 64) : driveR u re im ldt br bi (ix4 t b g n) = drive u (bbarR re im ldt br bi) (ix4 t b g n) := by
  rw [driveR_apply, drive_apply, drive_apply, drive_apply]
  refine ((out_sub (real_coefR h g n) (real_coefI h g n) (fun p => h.f_u _) (fun p => ?_) fun p => ?_)).symm
  · rw [layB_apply]; exact h.f_br _
  · rw [layB_apply]; exact h.f_bi _
theorem driveI_eq (t : Fin 2048) (b : Fin 8) (g : Fin 32) (n : Fin 64) : driveI u re im ldt br bi (ix4 t b g n) = drive u (bbarI re im ldt br bi) (ix4 t b g n) := by
  rw [driveI_apply, drive_apply, drive_apply, drive_apply]
  refine ((out_add (real_coefR h g n) (real_coefI h g n) (fun p => h.f_u _) (fun p => ?_) fun p => ?_)).symm
  · rw [layB_apply]; exact h.f_bi _
  · rw [layB_apply]; exact h.f_br _

/-- What drives the states is finite. -/
theorem real_drive (x : FVec Ideal S1x32x64x16 .f32) (hx : ∀ i, IsReal (x i)) (t : Fin 2048) (b : Fin 8) (g : Fin 32) (n : Fin 64) : IsReal (drive u (layB x) (ix4 t b g n)) := by
  rw [drive_apply]
  exact IsReal.sum fun p => (h.f_u _).mul (by rw [layB_apply]; exact hx _)

variable (SR SI : Nat → FVec Ideal S8x32x64 .f32) (hR0 : ∀ i, SR 0 i = (0 : EReal)) (hI0 : ∀ i, SI 0 i = (0 : EReal))
  (hSR : ∀ (k : Fin 2048) (b : Fin 8) (g : Fin 32) (n : Fin 64), SR (k + 1) (ix3 b g n)
    = (abarR re im ldt (ix2 g n) * SR k (ix3 b g n) - abarI re im ldt (ix2 g n) * SI k (ix3 b g n) + driveR u re im ldt br bi (ix4 k b g n) : EReal))
  (hSI : ∀ (k : Fin 2048) (b : Fin 8) (g : Fin 32) (n : Fin 64), SI (k + 1) (ix3 b g n)
    = (abarR re im ldt (ix2 g n) * SI k (ix3 b g n) + abarI re im ldt (ix2 g n) * SR k (ix3 b g n) + driveI u re im ldt br bi (ix4 k b g n) : EReal))
include hR0 hI0 hSR hSI

/-- The states are finite. -/
theorem real_states (b : Fin 8) (g : Fin 32) (n : Fin 64) : ∀ k : Nat, k ≤ 2048 → IsReal (SR k (ix3 b g n)) ∧ IsReal (SI k (ix3 b g n)) := by
  intro k
  induction k with
  | zero => exact fun _ => ⟨⟨0, hR0 _⟩, ⟨0, hI0 _⟩⟩
  | succ k ih =>
    intro hk
    obtain ⟨iR, iI⟩ := ih (by omega)
    have eR := hSR ⟨k, hk⟩ b g n
    have eI := hSI ⟨k, hk⟩ b g n
    rw [driveR_apply] at eR
    rw [driveI_apply] at eI
    have dR := real_drive h br h.f_br ⟨k, hk⟩ b g n
    have dI := real_drive h bi h.f_bi ⟨k, hk⟩ b g n
    have cR := real_coefR h g n
    have cI := real_coefI h g n
    have aR := real_abarR h g n
    have aI := real_abarI h g n
    exact ⟨eR ▸ ((aR.mul iR).sub (aI.mul iI)).add ((cR.mul dR).sub (cI.mul dI)), eI ▸ ((aR.mul iI).add (aI.mul iR)).add ((cR.mul dI).add (cI.mul dR))⟩

omit hR0 hI0 hSR hSI in
/-- Subtracting the product with the output matrix's imaginary part is adding the product with its negative. -/
theorem mixed_eq (sk : FVec Ideal S1x512 .f32) (sr si : FVec Ideal S2048x8x32x64 .f32) (hs : ∀ l b g n, IsReal (si (ix4 l b g n))) :
    mixedSub u cr ci sk sr si = mixed u cr ci sk sr si := by
  have key : readout si (Host.negf (layC ci)) = Host.negf (readout si (layC ci)) := by
    funext i
    obtain ⟨b, t, g, p, rfl⟩ : ∃ b t g p, i = ix4 b t g p := ⟨i 0, i 1, i 2, i 3, funext fun q => by fin_cases q <;> rfl⟩
    show _ = (-readout si (layC ci) (ix4 b t g p) : EReal)
    rw [readout_apply, readout_apply]
    refine out_neg (fun n => hs t b g n) fun n => ?_
    pointwise
    exact h.f_ci _
  have neg : ∀ x y : FVec Ideal Cert.ReferenceIdeal.S8x2048x32x16 .f32, subf x y = addf x (Host.negf y) := fun x y => funext fun i => sub_eq_add_neg (x i : EReal) (y i)
  unfold mixedSub mixed
  rw [neg, ← key]
end

end Cert.S5

end
-- ==== Proof.S5.Precond.lean ====
/- The precondition in plain words: the recurrence's arguments are finite and no entry of A is zero. -/
module

public import proofs.«01_k».proof.Defs
public import proofs.«01_k».proof.Proof.S5.Finite

@[expose] public section

set_option maxRecDepth 16384

noncomputable section

open Idealize.ShloMosaic Idealize.ShloMosaic.TcCoe Idealize.SL.Sem

namespace Cert.S5

/-- The side conditions of the precondition's operations. -/
theorem pre_facts : Cert.Pre_finite.Facts where
  bcast_S_S8x2048x512 := by decide
  bcast_S_S1x32x64 := by decide
  bcast_S_S1x32 := by decide
  bcast_S_S1x32x64x16 := by decide
  bcast_S_S1x32x16x64 := by decide

/-- The words of the two infinities and of zero. -/
theorem word_top : Ideal.ofBits .f32 0x7F800000#32 = (⊤ : EReal) := by
  simp [Ideal.ofBits, Ideal.ieee]
theorem word_bot : Ideal.ofBits .f32 0xFF800000#32 = (⊥ : EReal) := by
  simp [Ideal.ofBits, Ideal.ieee]
theorem word_zero : Ideal.ofBits .f32 0x00000000#32 = (0 : EReal) := by
  simp [Ideal.ofBits, Ideal.ieee]

/-- A comparison's bit is one where the comparison holds. -/
theorem of_bit {p : Prop} [Decidable p] (h : BitVec.ofBool (decide p) = 1#1) : p := by
  by_contra hp
  rw [decide_eq_false hp] at h
  exact absurd h (by decide)

/-- Two masks of ones say that an array is finite. -/
theorem real_of_masks {s : Shape} (x : FVec Ideal s .f32)
    (h₁ : ∀ i, Ideal.cmp .olt (x i) (Ideal.ofBits .f32 0x7F800000#32) = 1#1)
    (h₂ : ∀ i, Ideal.cmp .ogt (x i) (Ideal.ofBits .f32 0xFF800000#32) = 1#1) (i : s.Idx) : IsReal (x i) :=
  IsReal.of_lt (word_top ▸ of_bit (h₁ i)) (word_bot ▸ of_bit (h₂ i))

/-- The precondition's fifteen masks. -/
theorem finite_of_pre [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    FiniteArgs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7)) := by
  obtain ⟨u1, u2, a1, a2, i1, i2, d1, d2, b1, b2, e1, e2, c1, c2, z⟩ := h c
  exact {
    f_u := real_of_masks _ (congrFun u1) (congrFun u2)
    f_re := real_of_masks _ (congrFun a1) (congrFun a2)
    f_im := real_of_masks _ (congrFun i1) (congrFun i2)
    f_ldt := real_of_masks _ (congrFun d1) (congrFun d2)
    f_br := real_of_masks _ (congrFun b1) (congrFun b2)
    f_bi := real_of_masks _ (congrFun e1) (congrFun e2)
    f_ci := real_of_masks _ (congrFun c1) (congrFun c2)
    A := fun i => word_zero ▸ of_bit (congrFun z i) }

end Cert.S5

end
-- ==== Proof.S5.Algebraic.lean ====
/- On equal arguments the S5 branch's two calls give the reference's result. -/
module

public import proofs.«01_k».proof.Defs
public import proofs.«01_k».proof.Proof.S5.Value
public import proofs.«01_k».proof.Proof.S5.Precond
public import proofs.«01_k».proof.Proof.S5.RefLoop
public import proofs.«01_k».proof.Proof.S5.RefRun
public import proofs.«01_k».proof.Proof.Gen.KernelIdeal
public import proofs.«01_k».proof.Proof.Gen.ReferenceIdeal

@[expose] public section

set_option maxRecDepth 16384

noncomputable section

open Idealize.ShloMosaic Idealize.ShloMosaic.TcCoe Idealize.SL.Sem

namespace Cert.S5
open Cert.KernelIdeal (S8x2048x512)
open Cert.KernelIdeal.S5 (aU aRe aIm aLdt aBr aBi aCr aCi aSk aWg aBg aWp dat1 E1)
open Cert.ReferenceIdeal (S1x512 S1x512x512 S1x512x1024 S1x32x64 S1x32 S1x32x64x16 S1x32x16x64 S32x64 S32x64x16 S2048x8x32x64 S8x32x64)
open Cert.ReferenceIdeal.S5 (drive mixed gelu glu proj stR stI W result_eq stR_zero stI_zero stR_succ stI_succ W_7 W_8)

/-- The call's result array in the terms of arrays that equal the arguments. -/
theorem final_of (m : (ℓ : Loc Cert.KernelIdeal.nD Cert.KernelIdeal.τ Cert.KernelIdeal.sig) → Buf (Elt Ideal) ℓ) (c : Dev Cert.KernelIdeal.nD)
    (u : FVec Ideal S8x2048x512 .f32) (re im : FVec Ideal S1x32x64 .f32) (ldt : FVec Ideal S1x32 .f32)
    (br bi : FVec Ideal S1x32x64x16 .f32) (cr ci : FVec Ideal S1x32x16x64 .f32) (sk : FVec Ideal S1x512 .f32)
    (wg : FVec Ideal S1x512x512 .f32) (bg : FVec Ideal S1x512 .f32) (wp : FVec Ideal S1x512x1024 .f32)
    (a0 : u = aU m c) (a1 : re = aRe m c) (a2 : im = aIm m c) (a3 : ldt = aLdt m c) (a4 : br = aBr m c) (a5 : bi = aBi m c)
    (a6 : cr = aCr m c) (a7 : ci = aCi m c) (a8 : sk = aSk m c) (a9 : wg = aWg m c) (a10 : bg = aBg m c) (a11 : wp = aWp m c)
    (SR SI : Nat → FVec Ideal S8x32x64 .f32) (hR0 : ∀ i, SR 0 i = (0 : EReal)) (hI0 : ∀ i, SI 0 i = (0 : EReal))
    (hSR : ∀ (k : Fin 2048) (b : Fin 8) (g : Fin 32) (n : Fin 64), SR (k + 1) (ix3 b g n)
      = (ReferenceIdeal.S5.abarR re im ldt (ix2 g n) * SR k (ix3 b g n) - ReferenceIdeal.S5.abarI re im ldt (ix2 g n) * SI k (ix3 b g n)
        + drive u (ReferenceIdeal.S5.bbarR re im ldt br bi) (ix4 k b g n) : EReal))
    (hSI : ∀ (k : Fin 2048) (b : Fin 8) (g : Fin 32) (n : Fin 64), SI (k + 1) (ix3 b g n)
      = (ReferenceIdeal.S5.abarR re im ldt (ix2 g n) * SI k (ix3 b g n) + ReferenceIdeal.S5.abarI re im ldt (ix2 g n) * SR k (ix3 b g n)
        + drive u (ReferenceIdeal.S5.bbarI re im ldt br bi) (ix4 k b g n) : EReal))
    (sr si : FVec Ideal S2048x8x32x64 .f32)
    (hsr : ∀ (l : Fin 2048) (b : Fin 8) (g : Fin 32) (n : Fin 64), sr (ix4 l b g n) = SR (l + 1) (ix3 b g n))
    (hsi : ∀ (l : Fin 2048) (b : Fin 8) (g : Fin 32) (n : Fin 64), si (ix4 l b g n) = SI (l + 1) (ix3 b g n)) :
    (dat1 (E1 m) c).arrAt 11 Cert.KernelIdeal.cfg1.N = proj wp (glu wg bg (gelu (mixed u cr ci sk sr si))) := by
  subst a0 a1 a2 a3 a4 a5 a6 a7 a8 a9 a10 a11
  exact Cert.KernelIdeal.S5.final m c SR SI hR0 hI0 hSR hSI sr si hsr hsi

/-- On equal arguments that are finite, with no entry of A zero, the kernel's result, read ideally, is the reference's result. -/
theorem algebraic : Cert.algebraic_KernelIdeal_ReferenceIdeal_pre_finite (hPre_finite := pre_facts) := by
  intro m g m' g' hpre hagree
  refine ⟨fun c => (dat1 (E1 m) c).arrAt 11 Cert.KernelIdeal.cfg1.N, ?_, ?_⟩
  · exact (θ_run Cert.KernelIdeal.defs _ _).mono (fun r h c => ⟨(h.1 c).2, (h.1 c).1⟩) (Cert.KernelIdeal.S5.run_main (F := Ideal) m g)
  · refine (θ_run Cert.ReferenceIdeal.defs _ _).mono (fun r h c => ⟨(h c).1.trans ?_, (h c).2⟩) (Cert.ReferenceIdeal.S5.run_main (F := Ideal) m' g')
    obtain ⟨a0, a1, a2, a3, a4, a5, a6, a7, a8, a9, a10, a11⟩ := hagree c
    have hf := @finite_of_pre pre_facts m hpre c
    rw [← a0, ← a1, ← a2, ← a3, ← a4, ← a5, ← a7] at hf
    have hs := real_states hf (stR m' c) (stI m' c) (stR_zero m' c) (stI_zero m' c) (stR_succ m' c) (stI_succ m' c)
    have h7 := fun (l : Fin 2048) (b : Fin 8) (g : Fin 32) (n : Fin 64) => W_7 m' c 2048 l l.isLt (Nat.le_refl _) b g n
    have h8 := fun (l : Fin 2048) (b : Fin 8) (g : Fin 32) (n : Fin 64) => W_8 m' c 2048 l l.isLt (Nat.le_refl _) b g n
    refine (result_eq m' c).trans ?_
    rw [mixed_eq hf _ _ _ fun l b g n => (h8 l b g n).symm ▸ (hs b g n (l + 1) l.isLt).2]
    exact (final_of m c _ _ _ _ _ _ _ _ _ _ _ _ a0 a1 a2 a3 a4 a5 a6 a7 a8 a9 a10 a11 (stR m' c) (stI m' c)
      (stR_zero m' c) (stI_zero m' c)
      (fun k b g n => (stR_succ m' c k b g n).trans (congrArg _ (driveR_eq hf k b g n)))
      (fun k b g n => (stI_succ m' c k b g n).trans (congrArg _ (driveI_eq hf k b g n)))
      _ _ h7 h8).symm

end Cert.S5

end
-- ==== Proof.Ffn.Stages.lean ====
/- The steps of the merge and feed-forward part as the kernel computes them on a block of 256 tokens and as the
   reference computes them on the whole batch, each step named once on each side. -/
module

public import proofs.«01_k».proof.Proof.Gen.Kernel2Ideal.Frame
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem

namespace Cert.Kernel2Ideal.Ffn
open Cert.Kernel2Ideal Cert.Kernel2Ideal.Gen

/-- The block's rows scaled by the reciprocal root of their mean square (plus the small constant) and by the gain. -/
def rms (x : FVec Ideal S256x1024 .f32) (g : FVec Ideal S1x1024 .f32) : FVec Ideal S256x1024 .bf16 :=
  truncf .bf16 (mulf (mulf x (broadcastTo S256x1024 (rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)) bitsLt_bf16_f32

/-- The block's gates: the normalised rows times the gate weights. -/
def gates (h : FVec Ideal S256x1024 .bf16) (wg : FVec Ideal S1024x2048 .bf16) : FVec Ideal S256x2048 .f32 :=
  matmul dot_S256x1024_S1024x2048_S256x2048_1_0_0_1_n_n none h wg (constant S256x2048 .f32 0x00000000#32)

/-- The block's attention output projected. -/
def proj (ya : FVec Ideal S1x256x512 .bf16) (w : FVec Ideal S512x1024 .bf16) : FVec Ideal S256x1024 .f32 :=
  matmul dot_S256x512_S512x1024_S256x1024_1_0_0_1_n_n none (shapeCast S256x512 ya shapeCasts_S1x256x512_S256x512)
    (shapeCast S512x1024 w shapeCasts_S512x1024_S512x1024) (constant S256x1024 .f32 0x00000000#32)

/-- The two branches under their gates, added. -/
def merge (ga : FVec Ideal S256x2048 .f32) (ps : FVec Ideal S1x256x1024 .bf16) (pa : FVec Ideal S256x1024 .f32) : FVec Ideal S256x1024 .bf16 :=
  truncf .bf16 (addf (mulf (logistic (extractStridedSlice S256x1024 ![0, 0] ga slices_S256x2048_o0_0_S256x1024))
      (extf .f32 (shapeCast S256x1024 ps shapeCasts_S1x256x1024_S256x1024) bitsLt_bf16_f32))
    (mulf (logistic (extractStridedSlice S256x1024 ![0, 1024] ga slices_S256x2048_o0_1024_S256x1024)) pa)) bitsLt_bf16_f32

/-- The block's input plus the merged branches projected. -/
def resid (x : FVec Ideal S256x1024 .f32) (mg : FVec Ideal S256x1024 .bf16) (wo : FVec Ideal S1024x1024 .bf16) : FVec Ideal S256x1024 .f32 :=
  addf x (matmul dot_S256x1024_S1024x1024_S256x1024_1_0_0_1_n_n none mg (shapeCast S1024x1024 wo shapeCasts_S1024x1024_S1024x1024) (constant S256x1024 .f32 0x00000000#32))

/-- The block's rows times one of the two weights into the hidden layer. -/
def up (h : FVec Ideal S256x1024 .bf16) (w : FVec Ideal S1024x2816 .bf16) : FVec Ideal S256x2816 .f32 :=
  matmul dot_S256x1024_S1024x2816_S256x2816_1_0_0_1_n_n none h (shapeCast S1024x2816 w shapeCasts_S1024x2816_S1024x2816) (constant S256x2816 .f32 0x00000000#32)

/-- The block's hidden layer: `a` times its logistic times `b`. -/
def hid (a b : FVec Ideal S256x2816 .f32) : FVec Ideal S256x2816 .bf16 :=
  truncf .bf16 (mulf (mulf a (logistic a)) b) bitsLt_bf16_f32

/-- The block's result: the residual plus the hidden layer projected back. -/
def down (x : FVec Ideal S256x1024 .f32) (hd : FVec Ideal S256x2816 .bf16) (w : FVec Ideal S2816x1024 .bf16) : FVec Ideal S256x1024 .f32 :=
  addf x (matmul dot_S256x2816_S2816x1024_S256x1024_1_0_0_1_n_n none hd (shapeCast S2816x1024 w shapeCasts_S2816x1024_S2816x1024) (constant S256x1024 .f32 0x00000000#32))

/-- What the kernel stores for a block is the steps above, composed. -/
theorem pay_eq (x0 : FVec Ideal S1x256x1024 .f32) (x1 : FVec Ideal S1x256x1024 .bf16) (x2 : FVec Ideal S1x256x512 .bf16) (x3 : FVec Ideal S1x1024 .f32) (x4 : FVec Ideal S1024x2048 .bf16)
    (x5 : FVec Ideal S512x1024 .bf16) (x6 : FVec Ideal S1024x1024 .bf16) (x7 : FVec Ideal S1x1024 .f32) (x8 x9 : FVec Ideal S1024x2816 .bf16) (x10 : FVec Ideal S2816x1024 .bf16) :
    k0_pay1 (k0_pay2 x0) (k0_pay3 x0 x3 x4 x2 x5 x1) x6 x7 x8 x9 x10
      = (let x := shapeCast S256x1024 x0 shapeCasts_S1x256x1024_S256x1024
         let r := resid x (merge (gates (rms x x3) x4) x1 (proj x2 x5)) x6
         shapeCast S1x256x1024 (down r (hid (up (rms r x7) x8) (up (rms r x7) x9)) x10) shapeCasts_S256x1024_S1x256x1024) := rfl

end Cert.Kernel2Ideal.Ffn

namespace Cert.Reference2Ideal.Ffn
open Cert.Reference2Ideal Cert.Reference2Ideal.Gen Cert.Reference2Ideal.Value

/-- The reference's root-mean-square norm. -/
def rms (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1
    (Host.reduceAdd (mulf x x) (constant S_ .f32 0x00000000#32) reducesTo_S8x2048x1024_S8x2048_d2 h_S_)) (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 (shapeCast _ g shapeCasts_S1x1024_S1024)))

/-- The reference's gates before the sigmoid. -/
def gates (h : FVec Ideal S8x2048x1024 .f32) (wg : FVec Ideal S1024x2048 .bf16) : FVec Ideal S8x2048x2048 .f32 :=
  Host.dotGeneral dot_S8x2048x1024_S1024x2048_S8x2048x2048_2_0_01_1_n_n none h (extf .f32 wg bitsLt_bf16_f32)

/-- The reference's attention output projected. -/
def proj (ya : FVec Ideal S8x2048x512 .bf16) (w : FVec Ideal S1x512x1024 .f32) : FVec Ideal S8x2048x1024 .f32 :=
  Host.dotGeneral dot_S8x2048x512_S512x1024_S8x2048x1024_2_0_01_1_n_n none (extf .f32 ya bitsLt_bf16_f32) (shapeCast _ w shapeCasts_S1x512x1024_S512x1024)

/-- The reference's sigmoid. -/
def sigm (x : FVec Ideal S8x2048x1024 .f32) : FVec Ideal S8x2048x1024 .f32 :=
  Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf x)))

/-- The reference's two branches under their gates, added. -/
def merge (ga : FVec Ideal S8x2048x2048 .f32) (ps : FVec Ideal S8x2048x1024 .bf16) (pa : FVec Ideal S8x2048x1024 .f32) : FVec Ideal S8x2048x1024 .f32 :=
  addf (mulf (sigm (extractStridedSlice S8x2048x1024 ![0, 0, 0] ga slices_S8x2048x2048_S8x2048x1024_0_0_0)) (extf .f32 ps bitsLt_bf16_f32))
    (mulf (sigm (extractStridedSlice S8x2048x1024 ![0, 0, 1024] ga slices_S8x2048x2048_S8x2048x1024_0_0_1024)) pa)

/-- The reference's input plus the merged branches projected. -/
def resid (x mg : FVec Ideal S8x2048x1024 .f32) (wo : FVec Ideal S1x1024x1024 .f32) : FVec Ideal S8x2048x1024 .f32 :=
  addf x (Host.dotGeneral dot_S8x2048x1024_S1024x1024_S8x2048x1024_2_0_01_1_n_n none mg (shapeCast _ wo shapeCasts_S1x1024x1024_S1024x1024))

/-- The reference's product into the hidden layer. -/
def up (h : FVec Ideal S8x2048x1024 .f32) (w : FVec Ideal S1x1024x2816 .f32) : FVec Ideal S8x2048x2816 .f32 :=
  Host.dotGeneral dot_S8x2048x1024_S1024x2816_S8x2048x2816_2_0_01_1_n_n none h (shapeCast _ w shapeCasts_S1x1024x2816_S1024x2816)

/-- The reference's hidden layer: `silu a * b`. -/
def hid (a b : FVec Ideal S8x2048x2816 .f32) : FVec Ideal S8x2048x2816 .f32 :=
  mulf (mulf a (Host.divf (broadcastInDim S8x2048x2816 ![] bcast_S_S8x2048x2816 (constant S_ .f32 0x3F800000#32))
    (addf (broadcastInDim S8x2048x2816 ![] bcast_S_S8x2048x2816 (constant S_ .f32 0x3F800000#32)) (Host.exp (Host.negf a))))) b

/-- The reference's residual plus the hidden layer projected back. -/
def down (x : FVec Ideal S8x2048x1024 .f32) (hd : FVec Ideal S8x2048x2816 .f32) (w : FVec Ideal S1x2816x1024 .f32) : FVec Ideal S8x2048x1024 .f32 :=
  addf x (Host.dotGeneral dot_S8x2048x2816_S2816x1024_S8x2048x1024_2_0_01_1_n_n none hd (shapeCast _ w shapeCasts_S1x2816x1024_S2816x1024))

/-- The reference's whole result: its steps composed. -/
def whole (x0 : FVec Ideal S8x2048x1024 .f32) (x1 : FVec Ideal S8x2048x1024 .bf16) (x2 : FVec Ideal S8x2048x512 .bf16) (x3 : FVec Ideal S1x1024 .f32) (x4 : FVec Ideal S1024x2048 .bf16)
    (x5 : FVec Ideal S1x512x1024 .f32) (x6 : FVec Ideal S1x1024x1024 .f32) (x7 : FVec Ideal S1x1024 .f32) (x8 x9 : FVec Ideal S1x1024x2816 .f32) (x10 : FVec Ideal S1x2816x1024 .f32) :
    FVec Ideal S8x2048x1024 .f32 :=
  let r := resid x0 (merge (gates (rms x0 x3) x4) x1 (proj x2 x5)) x6
  down r (hid (up (rms r x7) x8) (up (rms r x7) x9)) x10

/-- What the reference's run leaves is `whole` of its arguments. -/
theorem res_eq (m : (ℓ : Loc nD τ sig) → Buf (Elt Ideal) ℓ) (c : Dev nD) :
    res_out0 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) := by
  unfold res_out0 res_main_v62
  rfl

end Cert.Reference2Ideal.Ffn

end
-- ==== Proof.Ffn.Steps.lean ====
/- Step by step, a row of the kernel's block and the row of the reference it stands for stay equal. -/
module

public import proofs.«01_k».proof.Proof.Ffn.Stages

@[expose] public section

set_option maxRecDepth 16384

noncomputable section

open Idealize.ShloMosaic Idealize.ShloMosaic.TcCoe Idealize.SL.Sem

namespace Cert.Ffn

open Cert.Kernel2Ideal (S256x1024 S256x2048 S256x512 S256x2816 S1x256x1024 S1x256x512 S1x1024 S1024x2048 S512x1024 S1024x1024 S1024x2816 S2816x1024)
open Cert.Reference2Ideal (S8x2048x1024 S8x2048x2048 S8x2048x512 S8x2048x2816 S1x512x1024 S1x1024x1024 S1x1024x2816 S1x2816x1024)

variable (r : Fin 256) (b : Fin 8) (l : Fin 2048)

/-- Equal rows have equal norms. -/
theorem rms_row (x : FVec Ideal S256x1024 .f32) (y : FVec Ideal S8x2048x1024 .f32) (g h : FVec Ideal S1x1024 .f32)
    (hx : ∀ d : Fin 1024, x (ix2 r d) = y (ix3 b l d)) (hg : ∀ d : Fin 1024, g (ix2 0 d) = h (ix2 0 d)) (d : Fin 1024) :
    Kernel2Ideal.Ffn.rms x g (ix2 r d) = Reference2Ideal.Ffn.rms y h (ix3 b l d) := by
  pointwise [Kernel2Ideal.Ffn.rms, Reference2Ideal.Ffn.rms]
  simp only [hx, hg]

/-- Equal rows have equal gates. -/
theorem gates_row (x : FVec Ideal S256x1024 .bf16) (y : FVec Ideal S8x2048x1024 .f32) (w v : FVec Ideal S1024x2048 .bf16)
    (hx : ∀ d : Fin 1024, x (ix2 r d) = y (ix3 b l d)) (hw : ∀ (k : Fin 1024) (d : Fin 2048), w (ix2 k d) = v (ix2 k d)) (d : Fin 2048) :
    Kernel2Ideal.Ffn.gates x w (ix2 r d) = Reference2Ideal.Ffn.gates y v (ix3 b l d) := by
  pointwise [Kernel2Ideal.Ffn.gates, Reference2Ideal.Ffn.gates]
  simp only [hx, hw]

/-- Equal rows have equal projections. -/
theorem proj_row (x : FVec Ideal S1x256x512 .bf16) (y : FVec Ideal S8x2048x512 .bf16) (w : FVec Ideal S512x1024 .bf16) (v : FVec Ideal S1x512x1024 .f32)
    (hx : ∀ d : Fin 512, x (ix3 0 r d) = y (ix3 b l d)) (hw : ∀ (k : Fin 512) (d : Fin 1024), w (ix2 k d) = v (ix3 0 k d)) (d : Fin 1024) :
    Kernel2Ideal.Ffn.proj x w (ix2 r d) = Reference2Ideal.Ffn.proj y v (ix3 b l d) := by
  pointwise [Kernel2Ideal.Ffn.proj, Reference2Ideal.Ffn.proj]
  simp only [hx, hw]

/-- Equal gates and equal branches merge equally. -/
theorem merge_row (ga : FVec Ideal S256x2048 .f32) (ha : FVec Ideal S8x2048x2048 .f32) (ps : FVec Ideal S1x256x1024 .bf16) (qs : FVec Ideal S8x2048x1024 .bf16)
    (pa : FVec Ideal S256x1024 .f32) (qa : FVec Ideal S8x2048x1024 .f32)
    (hg : ∀ d : Fin 2048, ga (ix2 r d) = ha (ix3 b l d)) (hs : ∀ d : Fin 1024, ps (ix3 0 r d) = qs (ix3 b l d)) (hp : ∀ d : Fin 1024, pa (ix2 r d) = qa (ix3 b l d)) (d : Fin 1024) :
    Kernel2Ideal.Ffn.merge ga ps pa (ix2 r d) = Reference2Ideal.Ffn.merge ha qs qa (ix3 b l d) := by
  pointwise [Kernel2Ideal.Ffn.merge, Reference2Ideal.Ffn.merge, Reference2Ideal.Ffn.sigm]
  simp only [hg, hs, hp]; rfl

/-- Equal inputs and equal merged rows have equal residuals. -/
theorem resid_row (x : FVec Ideal S256x1024 .f32) (y : FVec Ideal S8x2048x1024 .f32) (mg : FVec Ideal S256x1024 .bf16) (nh : FVec Ideal S8x2048x1024 .f32)
    (w : FVec Ideal S1024x1024 .bf16) (v : FVec Ideal S1x1024x1024 .f32)
    (hx : ∀ d : Fin 1024, x (ix2 r d) = y (ix3 b l d)) (hm : ∀ d : Fin 1024, mg (ix2 r d) = nh (ix3 b l d)) (hw : ∀ (k : Fin 1024) (d : Fin 1024), w (ix2 k d) = v (ix3 0 k d)) (d : Fin 1024) :
    Kernel2Ideal.Ffn.resid x mg w (ix2 r d) = Reference2Ideal.Ffn.resid y nh v (ix3 b l d) := by
  pointwise [Kernel2Ideal.Ffn.resid, Reference2Ideal.Ffn.resid]
  simp only [hx, hm, hw]

/-- Equal rows have equal products into the hidden layer. -/
theorem up_row (x : FVec Ideal S256x1024 .bf16) (y : FVec Ideal S8x2048x1024 .f32) (w : FVec Ideal S1024x2816 .bf16) (v : FVec Ideal S1x1024x2816 .f32)
    (hx : ∀ d : Fin 1024, x (ix2 r d) = y (ix3 b l d)) (hw : ∀ (k : Fin 1024) (d : Fin 2816), w (ix2 k d) = v (ix3 0 k d)) (d : Fin 2816) :
    Kernel2Ideal.Ffn.up x w (ix2 r d) = Reference2Ideal.Ffn.up y v (ix3 b l d) := by
  pointwise [Kernel2Ideal.Ffn.up, Reference2Ideal.Ffn.up]
  simp only [hx, hw]

/-- Equal products make equal hidden rows. -/
theorem hid_row (x x' : FVec Ideal S256x2816 .f32) (y y' : FVec Ideal S8x2048x2816 .f32)
    (hx : ∀ d : Fin 2816, x (ix2 r d) = y (ix3 b l d)) (hx' : ∀ d : Fin 2816, x' (ix2 r d) = y' (ix3 b l d)) (d : Fin 2816) :
    Kernel2Ideal.Ffn.hid x x' (ix2 r d) = Reference2Ideal.Ffn.hid y y' (ix3 b l d) := by
  pointwise [Kernel2Ideal.Ffn.hid, Reference2Ideal.Ffn.hid]
  simp only [hx, hx']; rfl

/-- Equal residuals and equal hidden rows have equal results. -/
theorem down_row (x : FVec Ideal S256x1024 .f32) (y : FVec Ideal S8x2048x1024 .f32) (hd : FVec Ideal S256x2816 .bf16) (he : FVec Ideal S8x2048x2816 .f32)
    (w : FVec Ideal S2816x1024 .bf16) (v : FVec Ideal S1x2816x1024 .f32)
    (hx : ∀ d : Fin 1024, x (ix2 r d) = y (ix3 b l d)) (hh : ∀ d : Fin 2816, hd (ix2 r d) = he (ix3 b l d)) (hw : ∀ (k : Fin 2816) (d : Fin 1024), w (ix2 k d) = v (ix3 0 k d)) (d : Fin 1024) :
    Kernel2Ideal.Ffn.down x hd w (ix2 r d) = Reference2Ideal.Ffn.down y he v (ix3 b l d) := by
  pointwise [Kernel2Ideal.Ffn.down, Reference2Ideal.Ffn.down]
  simp only [hx, hh, hw]

end Cert.Ffn

end
-- ==== Proof.Ffn.Point.lean ====
/- The feed-forward call's result array is the reference's result. -/
module

public import proofs.«01_k».proof.Proof.Ffn.Steps

@[expose] public section

set_option maxRecDepth 16384

noncomputable section

open Idealize.ShloMosaic Idealize.ShloMosaic.TcCoe Idealize.SL.Sem
open Idealize.ShloMosaic.Pipeline (Dat)

namespace Cert.Kernel2Ideal.Ffn
open Cert.Kernel2Ideal Cert.Kernel2Ideal.Gen
variable (m : (ℓ : Loc nD τ sig) → Buf (Elt Ideal) ℓ)

/-- The grid runs over the batch and, inside it, over the eight blocks of 256 tokens; the token windows move with it and
the weights stay. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val / 8, t.val % 8, 0] ∧ t.val / 8 < 8 ∧ t.val < 64 :=
  (by decide +kernel : ∀ t : Fin grid0.N, _)

/-- The reference's result of the kernel's arguments. -/
abbrev REF (c : Dev nD) : FVec Ideal S8x2048x1024 .f32 :=
  Reference2Ideal.Ffn.whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))

/-- Row `r` of point `t`'s block of argument 0 is the token's row. -/
theorem tok0 (c : Dev nD) (t : Fin cfg0.N) (r : Fin 256) (b : Fin 8) (l : Fin 2048) (hb : b.val = t.val / 8) (hl : l.val = t.val % 8 * 256 + r.val) (d : Fin 1024) :
    (iblk m c 0 t : FVec Ideal S1x256x1024 .f32) (ix3 0 r d) = m ((c.tc : Thread nD τ).loc main_arg0) (ix3 b l d) := by
  blk_ext [iblk, V, idx t]

/-- Row `r` of point `t`'s block of argument 1 is the token's row. -/
theorem tok1 (c : Dev nD) (t : Fin cfg0.N) (r : Fin 256) (b : Fin 8) (l : Fin 2048) (hb : b.val = t.val / 8) (hl : l.val = t.val % 8 * 256 + r.val) (d : Fin 1024) :
    (iblk m c 1 t : FVec Ideal S1x256x1024 .bf16) (ix3 0 r d) = m ((c.tc : Thread nD τ).loc main_arg1) (ix3 b l d) := by
  blk_ext [iblk, V, idx t]

/-- Row `r` of point `t`'s block of argument 2 is the token's row. -/
theorem tok2 (c : Dev nD) (t : Fin cfg0.N) (r : Fin 256) (b : Fin 8) (l : Fin 2048) (hb : b.val = t.val / 8) (hl : l.val = t.val % 8 * 256 + r.val) (d : Fin 512) :
    (iblk m c 2 t : FVec Ideal S1x256x512 .bf16) (ix3 0 r d) = m ((c.tc : Thread nD τ).loc main_arg2) (ix3 b l d) := by
  blk_ext [iblk, V, idx t]

/-- Every point reads gain 3 whole. -/
theorem gain3 (c : Dev nD) (t : Fin cfg0.N) (d : Fin 1024) :
    (iblk m c 3 t : FVec Ideal S1x1024 .f32) (ix2 0 d) = m ((c.tc : Thread nD τ).loc main_arg3) (ix2 0 d) := by
  blk_simp [iblk]
  entry_read
  pointwise
  blk_ext [idx t]

/-- Every point reads the gate weights whole. -/
theorem wt4 (c : Dev nD) (t : Fin cfg0.N) (k : Fin 1024) (d : Fin 2048) :
    (iblk m c 4 t : FVec Ideal S1024x2048 .bf16) (ix2 k d) = m ((c.tc : Thread nD τ).loc main_arg4) (ix2 k d) := by
  blk_ext [iblk, V, idx t]

/-- Every point reads weight 5 whole: the argument without its leading axis. -/
theorem wt5 (c : Dev nD) (t : Fin cfg0.N) (k : Fin 512) (d : Fin 1024) :
    (iblk m c 5 t : FVec Ideal S512x1024 .bf16) (ix2 k d) = m ((c.tc : Thread nD τ).loc main_arg5) (ix3 0 k d) := by
  blk_simp [iblk]
  entry_read
  pointwise
  blk_ext [idx t]

/-- Every point reads weight 6 whole: the argument without its leading axis. -/
theorem wt6 (c : Dev nD) (t : Fin cfg0.N) (k : Fin 1024) (d : Fin 1024) :
    (iblk m c 6 t : FVec Ideal S1024x1024 .bf16) (ix2 k d) = m ((c.tc : Thread nD τ).loc main_arg6) (ix3 0 k d) := by
  blk_simp [iblk]
  entry_read
  pointwise
  blk_ext [idx t]

/-- Every point reads gain 7 whole. -/
theorem gain7 (c : Dev nD) (t : Fin cfg0.N) (d : Fin 1024) :
    (iblk m c 7 t : FVec Ideal S1x1024 .f32) (ix2 0 d) = m ((c.tc : Thread nD τ).loc main_arg7) (ix2 0 d) := by
  blk_simp [iblk]
  entry_read
  pointwise
  blk_ext [idx t]

/-- Every point reads weight 8 whole: the argument without its leading axis. -/
theorem wt8 (c : Dev nD) (t : Fin cfg0.N) (k : Fin 1024) (d : Fin 2816) :
    (iblk m c 8 t : FVec Ideal S1024x2816 .bf16) (ix2 k d) = m ((c.tc : Thread nD τ).loc main_arg8) (ix3 0 k d) := by
  blk_simp [iblk]
  entry_read
  pointwise
  blk_ext [idx t]

/-- Every point reads weight 9 whole: the argument without its leading axis. -/
theorem wt9 (c : Dev nD) (t : Fin cfg0.N) (k : Fin 1024) (d : Fin 2816) :
    (iblk m c 9 t : FVec Ideal S1024x2816 .bf16) (ix2 k d) = m ((c.tc : Thread nD τ).loc main_arg9) (ix3 0 k d) := by
  blk_simp [iblk]
  entry_read
  pointwise
  blk_ext [idx t]

/-- Every point reads weight 10 whole: the argument without its leading axis. -/
theorem wt10 (c : Dev nD) (t : Fin cfg0.N) (k : Fin 2816) (d : Fin 1024) :
    (iblk m c 10 t : FVec Ideal S2816x1024 .bf16) (ix2 k d) = m ((c.tc : Thread nD τ).loc main_arg10) (ix3 0 k d) := by
  blk_simp [iblk]
  entry_read
  pointwise
  blk_ext [idx t]

/-- A block without its batch axis reads the block. -/
theorem cast_in (x : FVec Ideal S1x256x1024 .f32) (r : Fin 256) (d : Fin 1024) :
    shapeCast S256x1024 x shapeCasts_S1x256x1024_S256x1024 (ix2 r d) = x (ix3 0 r d) := by
  pointwise

/-- A block given its batch axis reads the block. -/
theorem cast_out (x : FVec Ideal S256x1024 .f32) (r : Fin 256) (d : Fin 1024) :
    shapeCast S1x256x1024 x shapeCasts_S256x1024_S1x256x1024 (ix3 0 r d) = x (ix2 r d) := by
  pointwise

/-- What grid point `t` stores at row `r`, column `d` of its block is the reference's result at the token the row stands for. -/
theorem point (c : Dev nD) (t : Fin cfg0.N) (r : Fin 256) (d : Fin 1024) (b : Fin 8) (l : Fin 2048) (hb : b.val = t.val / 8) (hl : l.val = t.val % 8 * 256 + r.val) :
    k0_pay1 (k0_pay2 (iblk m c 0 t)) (k0_pay3 (iblk m c 0 t) (iblk m c 3 t) (iblk m c 4 t) (iblk m c 2 t) (iblk m c 5 t) (iblk m c 1 t)) (iblk m c 6 t)
      (iblk m c 7 t) (iblk m c 8 t) (iblk m c 9 t) (iblk m c 10 t) (ix3 0 r d) = REF m c (ix3 b l d) := by
  have e0 : ∀ d : Fin 1024, shapeCast S256x1024 (iblk m c 0 t : FVec Ideal S1x256x1024 .f32) shapeCasts_S1x256x1024_S256x1024 (ix2 r d) = m ((c.tc : Thread nD τ).loc main_arg0) (ix3 b l d) :=
    fun d => (cast_in _ r d).trans (tok0 m c t r b l hb hl d)
  have hm := Cert.Ffn.merge_row r b l _ _ _ _ _ _
    (Cert.Ffn.gates_row r b l _ _ _ _ (Cert.Ffn.rms_row r b l _ _ _ _ e0 (gain3 m c t)) (wt4 m c t))
    (tok1 m c t r b l hb hl) (Cert.Ffn.proj_row r b l _ _ _ _ (tok2 m c t r b l hb hl) (wt5 m c t))
  have hr := Cert.Ffn.resid_row r b l _ _ _ _ _ _ e0 hm (wt6 m c t)
  have hn := Cert.Ffn.rms_row r b l _ _ _ _ hr (gain7 m c t)
  have hh := Cert.Ffn.hid_row r b l _ _ _ _ (Cert.Ffn.up_row r b l _ _ _ _ hn (wt8 m c t)) (Cert.Ffn.up_row r b l _ _ _ _ hn (wt9 m c t))
  have hd := Cert.Ffn.down_row r b l _ _ _ _ _ _ hr hh (wt10 m c t) d
  rw [pay_eq]
  exact (cast_out _ r d).trans hd

/-- The result array after the run is the reference's result. -/
theorem final (c : Dev nD) : (dats m 0 c).arrAt 11 (cfgs 0).N = REF m c := by
  refine (dats m 0 c).arrAt_eq_of_covers 11 _ (by decide +kernel) fun t _ y => ?_
  blk_simp
  rw [after0_11]; frame_out
  have ht : t.val < 64 := (idx t).2.2.2.2.2.2.2.2.2.2.2.2.2
  have hy : y = ix3 0 ⟨(y 1).val, (y 1).isLt⟩ ⟨(y 2).val, (y 2).isLt⟩ := by blk_ext
  have hr : (y 1).val < 256 := (y 1).isLt
  have hd : (y 2).val < 1024 := (y 2).isLt
  refine Eq.trans ((congrArg _ hy).trans (point m c t ⟨(y 1).val, hr⟩ ⟨(y 2).val, hd⟩ ⟨t.val / 8, by omega⟩ ⟨t.val % 8 * 256 + (y 1).val, by omega⟩ rfl rfl)) ?_
  refine congrArg _ ?_
  blk_ext [idx t]

end Cert.Kernel2Ideal.Ffn

end
-- ==== Proof.Ffn.Claims.lean ====
/- The five claims about the merge and feed-forward call. -/
module

public import proofs.«01_k».proof.Defs
public import proofs.«01_k».proof.Proof.Ffn.Point
public import proofs.«01_k».proof.Proof.Gen.Kernel2
public import proofs.«01_k».proof.Proof.Gen.Kernel2.Frame
public import proofs.«01_k».proof.Proof.Gen.Kernel2Ideal
public import proofs.«01_k».proof.Proof.Gen.Reference2Ideal

@[expose] public section

noncomputable section

open Idealize.ShloMosaic Idealize.ShloMosaic.TcCoe Idealize.SL.Sem

namespace Cert.Ffn

/-- The kernel as printed ends from every memory, with its arguments unchanged and every counter at zero. -/
theorem frame_kernel : Cert.quiescent_Kernel2 := fun m ρ _ => Cert.Kernel2.Gen.frame m ρ

/-- The same of its ideal reading. -/
theorem frame_ideal : Cert.quiescent_Kernel2Ideal := fun m ρ _ => Cert.Kernel2Ideal.Gen.frame m ρ

/-- The same of the reference. -/
theorem frame_reference : Cert.quiescent_Reference2Ideal := by
  intro m ρ _
  exact (θ_run Cert.Reference2Ideal.defs _ _).mono (fun r h => ⟨fun c => (h c).2, Idealize.ShloMosaic.sem_eq_zero_of_no_sems (by decide) r.2⟩)
    (Cert.Reference2Ideal.Value.run m ρ)

/-- On equal arguments the kernel's result, read ideally, is the reference's result. -/
theorem algebraic : Cert.algebraic_Kernel2Ideal_Reference2Ideal := by
  pair_intro
  · run_from Cert.Kernel2Ideal.Gen.run_main m g
  · run_from Cert.Reference2Ideal.Value.run m' g'
    obtain ⟨a0, a1, a2, a3, a4, a5, a6, a7, a8, a9, a10⟩ := hagree c
    refine (Cert.Reference2Ideal.Ffn.res_eq m' c).trans (Eq.trans ?_ (Cert.Kernel2Ideal.Ffn.final m c).symm)
    rw [a0, a1, a2, a3, a4, a5, a6, a7, a8, a9, a10]

end Cert.Ffn

end
-- ==== Proof.lean ====
/- Assembles the claim from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.S5.Claims
public import proofs.«01_k».proof.Proof.S5.Algebraic
public import proofs.«01_k».proof.Proof.Ffn.Claims

@[expose] public section

noncomputable section

namespace Cert.Proof

open Idealize.ShloMosaic Idealize.SL.Sem

/-- The S5 branch's two calls, and the merge and feed-forward call: of each the three frames, the ideal reading and the
equality with the reference. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.S5.pre_facts,
    Cert.S5.frame_kernel, Cert.S5.frame_ideal, fun m g _ => Cert.S5.frame_ideal m g trivial,
    Cert.S5.frame_reference, fun m g _ => Cert.S5.frame_reference m g trivial,
    Cert.Ffn.frame_kernel, Cert.Ffn.frame_ideal, Cert.Ffn.frame_reference,
    trivial, Cert.S5.algebraic, trivial, Cert.Ffn.algebraic⟩

end Cert.Proof

end
